-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v13)) (v5 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_v16) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_v10) = v4 c
          ∧ r.2.mem ((c.tc : Thread Cert.ReferenceIdeal.nD Cert.ReferenceIdeal.τ).loc Cert.ReferenceIdeal.main_v11) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_gates : Cert.Pre_finite_gates.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ preserves_Kernel_KernelIdeal
    ∧ algebraic_KernelIdeal_ReferenceIdeal_pre_finite_gates (hKernelIdeal := hKernelIdeal) (hReferenceIdeal := hReferenceIdeal) (hPre_finite_gates := hPre_finite_gates)
-- ==== Pre_finite_gates.lean ====
abbrev S48x1280x1152 : Shape := ⟨3, ![48, 1280, 1152]⟩
abbrev S2x1152x4 : Shape := ⟨3, ![2, 1152, 4]⟩
abbrev S2x1152x4x256 : Shape := ⟨4, ![2, 1152, 4, 256]⟩
abbrev S2x4x256 : Shape := ⟨3, ![2, 4, 256]⟩
abbrev S2x4x256x256 : Shape := ⟨4, ![2, 4, 256, 256]⟩
abbrev S2x4x256x1152 : Shape := ⟨4, ![2, 4, 256, 1152]⟩
abbrev S2x4x1152 : Shape := ⟨3, ![2, 4, 1152]⟩
abbrev S1x1152x4 : Shape := ⟨3, ![1, 1152, 4]⟩
abbrev S1152x4 : Shape := ⟨2, ![1152, 4]⟩
abbrev S_ : Shape := ⟨0, ![]⟩

class Facts : Prop where
  slices_S2x1152x4_S1x1152x4_0_0_0 : S2x1152x4.Slices ![0, 0, 0] S1x1152x4
  shapeCasts_S1x1152x4_S1152x4 : S1x1152x4.ShapeCasts S1152x4
  bcast_S_S1152x4 : S_.BroadcastsInDim S1152x4 (![] : Fin 0 → Fin S1152x4.rank)
  reducesTo_S1152x4_S_d0_1 : S1152x4.ReducesTo [0, 1] S_
  h_S_ : 0 < S_.numel

variable [Facts]

def fn {F : FTy → Type} [FloatOps F] (main_arg0 : FVec F S48x1280x1152 .bf16) (main_arg1 : FVec F S2x1152x4 .f32) (main_arg2 : FVec F S2x1152x4x256 .fp8e4m3) (main_arg3 : FVec F S2x4x256 .f32) (main_arg4 : FVec F S2x4x256x256 .bf16) (main_arg5 : FVec F S2x4x256x1152 .fp8e4m3) (main_arg6 : FVec F S2x4x1152 .f32) (main_arg7 : FVec F S2x4x1152 .f32) : IVec S_ 1 :=
  let main_v0 : FVec F S1x1152x4 .f32 := (extractStridedSlice S1x1152x4 ![0, 0, 0] · slices_S2x1152x4_S1x1152x4_0_0_0) main_arg1
  let main_v1 : FVec F S1152x4 .f32 := shapeCast S1152x4 main_v0 shapeCasts_S1x1152x4_S1152x4
  let main_v2 : FVec F S1152x4 .f32 := Host.absf main_v1
  let main_cst : FVec F S_ .f32 := constant S_ .f32 0x7F800000#32
  let main_v3 : FVec F S1152x4 .f32 := broadcastInDim S1152x4 ![] bcast_S_S1152x4 main_cst
  let main_v4 : IVec S1152x4 1 := cmpf .olt main_v2 main_v3
  let main_c : IVec S_ 1 := constantI S_ 1 1#1
  let main_v5 : IVec S_ 1 := (fun x v => Host.reduce IntOp.andi x v reducesTo_S1152x4_S_d0_1 h_S_) main_v4 main_c
  main_v5
-- ==== Kernel.lean ====
abbrev S48x1280x1152 : Shape := ⟨3, ![48, 1280, 1152]⟩
abbrev S2x1152x4 : Shape := ⟨3, ![2, 1152, 4]⟩
abbrev S2x1152x4x256 : Shape := ⟨4, ![2, 1152, 4, 256]⟩
abbrev S2x4x256 : Shape := ⟨3, ![2, 4, 256]⟩
abbrev S2x4x256x256 : Shape := ⟨4, ![2, 4, 256, 256]⟩
abbrev S2x4x256x1152 : Shape := ⟨4, ![2, 4, 256, 1152]⟩
abbrev S2x4x1152 : Shape := ⟨3, ![2, 4, 1152]⟩
abbrev S61440x1152 : Shape := ⟨2, ![61440, 1152]⟩
abbrev S2x1152x1024 : Shape := ⟨3, ![2, 1152, 1024]⟩
abbrev S2x1024x1152 : Shape := ⟨3, ![2, 1024, 1152]⟩
abbrev S16x61440 : Shape := ⟨2, ![16, 61440]⟩
abbrev S512x1152 : Shape := ⟨2, ![512, 1152]⟩
abbrev S16x512 : Shape := ⟨2, ![16, 512]⟩
abbrev S128x1152 : Shape := ⟨2, ![128, 1152]⟩
abbrev S1x256x1152 : Shape := ⟨3, ![1, 256, 1152]⟩
abbrev S256x1152 : Shape := ⟨2, ![256, 1152]⟩
abbrev S1x1x1152 : Shape := ⟨3, ![1, 1, 1152]⟩
abbrev S1x1152 : Shape := ⟨2, ![1, 1152]⟩
abbrev S1x4x1152 : Shape := ⟨3, ![1, 4, 1152]⟩
abbrev S4x1152 : Shape := ⟨2, ![4, 1152]⟩
abbrev S16x1152 : Shape := ⟨2, ![16, 1152]⟩
abbrev S512x128 : Shape := ⟨2, ![512, 128]⟩
abbrev S512 : Shape := ⟨1, ![512]⟩
abbrev S512x1 : Shape := ⟨2, ![512, 1]⟩
abbrev S1x1152x256 : Shape := ⟨3, ![1, 1152, 256]⟩
abbrev S1152x256 : Shape := ⟨2, ![1152, 256]⟩
abbrev S512x256 : Shape := ⟨2, ![512, 256]⟩
abbrev S1x1x256 : Shape := ⟨3, ![1, 1, 256]⟩
abbrev S1x256 : Shape := ⟨2, ![1, 256]⟩
abbrev S1x1x256x256 : Shape := ⟨4, ![1, 1, 256, 256]⟩
abbrev S256x256 : Shape := ⟨2, ![256, 256]⟩
abbrev S512x1024 : Shape := ⟨2, ![512, 1024]⟩
abbrev S1x1024x1152 : Shape := ⟨3, ![1, 1024, 1152]⟩
abbrev S1024x1152 : Shape := ⟨2, ![1024, 1152]⟩
abbrev S128x512 : Shape := ⟨2, ![128, 512]⟩
abbrev S8x61440 : Shape := ⟨2, ![8, 61440]⟩
abbrev S61440x8 : Shape := ⟨2, ![61440, 8]⟩
abbrev S48x1280x2x4 : Shape := ⟨4, ![48, 1280, 2, 4]⟩
abbrev S1x61440 : Shape := ⟨2, ![1, 61440]⟩
abbrev S61440 : Shape := ⟨1, ![61440]⟩
abbrev S48x1280 : Shape := ⟨2, ![48, 1280]⟩

abbrev nBuf : Space → Nat
  | .hbm => 28
  | .vmem => 19
  | .smem => 0
  | _ => 0

abbrev bufTy : (tb : Table) → Fin (tcTables nBuf tb) → BufTy
  | .hbm, ⟨0, _⟩ => ⟨S48x1280x1152, .bf16⟩
  | .hbm, ⟨1, _⟩ => ⟨S2x1152x4, .f32⟩
  | .hbm, ⟨2, _⟩ => ⟨S2x1152x4x256, .fp8e4m3⟩
  | .hbm, ⟨3, _⟩ => ⟨S2x4x256, .f32⟩
  | .hbm, ⟨4, _⟩ => ⟨S2x4x256x256, .bf16⟩
  | .hbm, ⟨5, _⟩ => ⟨S2x4x256x1152, .fp8e4m3⟩
  | .hbm, ⟨6, _⟩ => ⟨S2x4x1152, .f32⟩
  | .hbm, ⟨7, _⟩ => ⟨S2x4x1152, .f32⟩
  | .hbm, ⟨8, _⟩ => ⟨S61440x1152, .bf16⟩
  | .hbm, ⟨9, _⟩ => ⟨S2x4x1152, .f32⟩
  | .hbm, ⟨10, _⟩ => ⟨S2x1152x1024, .fp8e4m3⟩
  | .hbm, ⟨11, _⟩ => ⟨S2x1024x1152, .fp8e4m3⟩
  | .hbm, ⟨12, _⟩ => ⟨S61440x1152, .bf16⟩
  | .hbm, ⟨13, _⟩ => ⟨S16x61440, .f32⟩
  | .hbm, ⟨14, _⟩ => ⟨S61440x1152, .fp8e4m3⟩
  | .hbm, ⟨15, _⟩ => ⟨S61440x1152, .fp8e4m3⟩
  | .hbm, ⟨16, _⟩ => ⟨S8x61440, .f32⟩
  | .hbm, ⟨17, _⟩ => ⟨S61440x8, .f32⟩
  | .hbm, ⟨18, _⟩ => ⟨S48x1280x2x4, .f32⟩
  | .hbm, ⟨19, _⟩ => ⟨S48x1280x1152, .bf16⟩
  | .hbm, ⟨20, _⟩ => ⟨S48x1280x1152, .fp8e4m3⟩
  | .hbm, ⟨21, _⟩ => ⟨S1x61440, .f32⟩
  | .hbm, ⟨22, _⟩ => ⟨S61440, .f32⟩
  | .hbm, ⟨23, _⟩ => ⟨S48x1280, .f32⟩
  | .hbm, ⟨24, _⟩ => ⟨S48x1280x1152, .fp8e4m3⟩
  | .hbm, ⟨25, _⟩ => ⟨S1x61440, .f32⟩
  | .hbm, ⟨26, _⟩ => ⟨S61440, .f32⟩
  | .hbm, ⟨27, _⟩ => ⟨S48x1280, .f32⟩
  | .local _ .vmem, ⟨0, _⟩ => ⟨S512x1152, .bf16⟩
  | .local _ .vmem, ⟨1, _⟩ => ⟨S512x1152, .bf16⟩
  | .local _ .vmem, ⟨2, _⟩ => ⟨S2x4x1152, .f32⟩
  | .local _ .vmem, ⟨3, _⟩ => ⟨S2x1152x1024, .fp8e4m3⟩
  | .local _ .vmem, ⟨4, _⟩ => ⟨S2x4x256, .f32⟩
  | .local _ .vmem, ⟨5, _⟩ => ⟨S2x4x256x256, .bf16⟩
  | .local _ .vmem, ⟨6, _⟩ => ⟨S2x1024x1152, .fp8e4m3⟩
  | .local _ .vmem, ⟨7, _⟩ => ⟨S2x4x1152, .f32⟩
  | .local _ .vmem, ⟨8, _⟩ => ⟨S2x4x1152, .f32⟩
  | .local _ .vmem, ⟨9, _⟩ => ⟨S512x1152, .bf16⟩
  | .local _ .vmem, ⟨10, _⟩ => ⟨S512x1152, .bf16⟩
  | .local _ .vmem, ⟨11, _⟩ => ⟨S16x512, .f32⟩
  | .local _ .vmem, ⟨12, _⟩ => ⟨S16x512, .f32⟩
  | .local _ .vmem, ⟨13, _⟩ => ⟨S512x1152, .fp8e4m3⟩
  | .local _ .vmem, ⟨14, _⟩ => ⟨S512x1152, .fp8e4m3⟩
  | .local _ .vmem, ⟨15, _⟩ => ⟨S512x1152, .fp8e4m3⟩
  | .local _ .vmem, ⟨16, _⟩ => ⟨S512x1152, .fp8e4m3⟩
  | .local _ .vmem, ⟨17, _⟩ => ⟨S2x1024x1152, .bf16⟩
  | .local _ .vmem, ⟨18, _⟩ => ⟨S128x1152, .bf16⟩
  | _, _ => ⟨S48x1280x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1152x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x4x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x4x1152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1152 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1152 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1152 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S48x1280x1152 : Shape := ⟨3, ![48, 1280, 1152]⟩
abbrev S2x1152x4 : Shape := ⟨3, ![2, 1152, 4]⟩
abbrev S2x1152x4x256 : Shape := ⟨4, ![2, 1152, 4, 256]⟩
abbrev S2x4x256 : Shape := ⟨3, ![2, 4, 256]⟩
abbrev S2x4x256x256 : Shape := ⟨4, ![2, 4, 256, 256]⟩
abbrev S2x4x256x1152 : Shape := ⟨4, ![2, 4, 256, 1152]⟩
abbrev S2x4x1152 : Shape := ⟨3, ![2, 4, 1152]⟩
abbrev S61440x1152 : Shape := ⟨2, ![61440, 1152]⟩
abbrev S2x1152x1024 : Shape := ⟨3, ![2, 1152, 1024]⟩
abbrev S61440x4 : Shape := ⟨2, ![61440, 4]⟩
abbrev S61440x1 : Shape := ⟨2, ![61440, 1]⟩
abbrev S61440 : Shape := ⟨1, ![61440]⟩
abbrev S1x252 : Shape := ⟨2, ![1, 252]⟩
abbrev S61440x252 : Shape := ⟨2, ![61440, 252]⟩
abbrev S1x1152x4 : Shape := ⟨3, ![1, 1152, 4]⟩
abbrev S1152x4 : Shape := ⟨2, ![1152, 4]⟩
abbrev S1x1152x256 : Shape := ⟨3, ![1, 1152, 256]⟩
abbrev S1152x256 : Shape := ⟨2, ![1152, 256]⟩
abbrev S61440x256 : Shape := ⟨2, ![61440, 256]⟩
abbrev S1x1x256 : Shape := ⟨3, ![1, 1, 256]⟩
abbrev S1x256 : Shape := ⟨2, ![1, 256]⟩
abbrev S1x1x256x1152 : Shape := ⟨4, ![1, 1, 256, 1152]⟩
abbrev S256x1152 : Shape := ⟨2, ![256, 1152]⟩
abbrev S1x1x1152 : Shape := ⟨3, ![1, 1, 1152]⟩
abbrev S1x1152 : Shape := ⟨2, ![1, 1152]⟩
abbrev S1x1x256x256 : Shape := ⟨4, ![1, 1, 256, 256]⟩
abbrev S256x256 : Shape := ⟨2, ![256, 256]⟩
abbrev S61440x1x4 : Shape := ⟨3, ![61440, 1, 4]⟩
abbrev S61440x2x4 : Shape := ⟨3, ![61440, 2, 4]⟩
abbrev S48x1280x2x4 : Shape := ⟨4, ![48, 1280, 2, 4]⟩
abbrev S48x1280 : Shape := ⟨2, ![48, 1280]⟩

abbrev nBuf : Space → Nat
  | .hbm => 26
  | .vmem => 15
  | .smem => 0
  | _ => 0

abbrev bufTy : (tb : Table) → Fin (tcTables nBuf tb) → BufTy
  | .hbm, ⟨0, _⟩ => ⟨S48x1280x1152, .bf16⟩
  | .hbm, ⟨1, _⟩ => ⟨S2x1152x4, .f32⟩
  | .hbm, ⟨2, _⟩ => ⟨S2x1152x4x256, .fp8e4m3⟩
  | .hbm, ⟨3, _⟩ => ⟨S2x4x256, .f32⟩
  | .hbm, ⟨4, _⟩ => ⟨S2x4x256x256, .bf16⟩
  | .hbm, ⟨5, _⟩ => ⟨S2x4x256x1152, .fp8e4m3⟩
  | .hbm, ⟨6, _⟩ => ⟨S2x4x1152, .f32⟩
  | .hbm, ⟨7, _⟩ => ⟨S2x4x1152, .f32⟩
  | .hbm, ⟨8, _⟩ => ⟨S61440x1152, .bf16⟩
  | .hbm, ⟨9, _⟩ => ⟨S2x1152x1024, .fp8e4m3⟩
  | .hbm, ⟨10, _⟩ => ⟨S61440x1152, .bf16⟩
  | .hbm, ⟨11, _⟩ => ⟨S61440x4, .f32⟩
  | .hbm, ⟨12, _⟩ => ⟨S61440x4, .f32⟩
  | .hbm, ⟨13, _⟩ => ⟨S61440x1152, .fp8e4m3⟩
  | .hbm, ⟨14, _⟩ => ⟨S61440x1, .f32⟩
  | .hbm, ⟨15, _⟩ => ⟨S61440x1152, .fp8e4m3⟩
  | .hbm, ⟨16, _⟩ => ⟨S61440x1, .f32⟩
  | .hbm, ⟨17, _⟩ => ⟨S61440x1x4, .f32⟩
  | .hbm, ⟨18, _⟩ => ⟨S61440x1x4, .f32⟩
  | .hbm, ⟨19, _⟩ => ⟨S61440x2x4, .f32⟩
  | .hbm, ⟨20, _⟩ => ⟨S48x1280x2x4, .f32⟩
  | .hbm, ⟨21, _⟩ => ⟨S48x1280x1152, .bf16⟩
  | .hbm, ⟨22, _⟩ => ⟨S48x1280x1152, .fp8e4m3⟩
  | .hbm, ⟨23, _⟩ => ⟨S48x1280, .f32⟩
  | .hbm, ⟨24, _⟩ => ⟨S48x1280x1152, .fp8e4m3⟩
  | .hbm, ⟨25, _⟩ => ⟨S48x1280, .f32⟩
  | .local _ .vmem, ⟨0, _⟩ => ⟨S61440x1152, .bf16⟩
  | .local _ .vmem, ⟨1, _⟩ => ⟨S2x1152x4, .f32⟩
  | .local _ .vmem, ⟨2, _⟩ => ⟨S2x1152x1024, .fp8e4m3⟩
  | .local _ .vmem, ⟨3, _⟩ => ⟨S2x4x256, .f32⟩
  | .local _ .vmem, ⟨4, _⟩ => ⟨S2x4x256x256, .bf16⟩
  | .local _ .vmem, ⟨5, _⟩ => ⟨S2x4x256x1152, .fp8e4m3⟩
  | .local _ .vmem, ⟨6, _⟩ => ⟨S2x4x1152, .f32⟩
  | .local _ .vmem, ⟨7, _⟩ => ⟨S2x4x1152, .f32⟩
  | .local _ .vmem, ⟨8, _⟩ => ⟨S61440x1152, .bf16⟩
  | .local _ .vmem, ⟨9, _⟩ => ⟨S61440x4, .f32⟩
  | .local _ .vmem, ⟨10, _⟩ => ⟨S61440x4, .f32⟩
  | .local _ .vmem, ⟨11, _⟩ => ⟨S61440x1152, .fp8e4m3⟩
  | .local _ .vmem, ⟨12, _⟩ => ⟨S61440x1, .f32⟩
  | .local _ .vmem, ⟨13, _⟩ => ⟨S61440x1152, .fp8e4m3⟩
  | .local _ .vmem, ⟨14, _⟩ => ⟨S61440x1, .f32⟩
  | _, _ => ⟨S48x1280x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S61440x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1152x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1152x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4x256x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4x1152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S61440x1152 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S61440x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S61440x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S61440x1152 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S61440x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S61440x1152 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S61440x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Scale.lean ====
module

public import Idealize.ShloMosaic.Lib.Pointwise
public import Idealize.ShloMosaic.PureOps.Ideal

@[expose] public section

set_option maxRecDepth 16384

noncomputable section

namespace Cert.Proof

open Idealize.ShloMosaic

/-- The f32 word whose exponent field is `n` and whose other bits are zero. -/
def word (n : ℕ) : BitVec 32 := BitVec.ofNat 32 (n * 8388608)

/-- What that word denotes. -/
def pow2 (n : ℕ) : EReal := Ideal.ofBits .f32 (word n)

/-- The `i`-th of the powers of two from `2^-126` on. -/
def rung (i : ℕ) : EReal := (((2 : ℝ) ^ ((i : ℤ) - 126) : ℝ) : EReal)

/-- The sign, exponent and fraction fields of a word. -/
theorem word_fields : ∀ n : Fin 256, (word n.val).extractLsb' (8 + 23) 1 = 0#1 ∧ ((word n.val).extractLsb' 23 8).toNat = n.val
    ∧ ((word n.val).extractLsb' 0 23).toNat = 0 := by decide +kernel

/-- The word of exponent 0 denotes zero. -/
theorem pow2_zero : pow2 0 = 0 := by
  simp [pow2, word, Ideal.ofBits, Ideal.ieee]

/-- The words of the exponents 1 to 254 denote the powers of two. -/
theorem pow2_succ (n : ℕ) (h : n + 1 < 255) : pow2 (n + 1) = rung n := by
  obtain ⟨h1, h2, h3⟩ := word_fields ⟨n + 1, by omega⟩
  simp only [] at h1 h2 h3
  unfold pow2 rung
  simp only [Ideal.ofBits, Ideal.ieee, h1, h2, h3]
  rw [if_neg (by omega), if_neg (by omega)]
  congr 1
  simp only [show ((0#1 : BitVec 1) == 1#1) = false from rfl, Bool.false_eq_true, if_false, one_mul, Nat.add_zero]
  push_cast
  rw [show (8388608:ℝ) = (2:ℝ)^(23:ℤ) by norm_num, ← zpow_add₀ (by norm_num)]
  congr 1
  omega

/-- The word of exponent 255 denotes infinity. -/
theorem pow2_top : pow2 255 = ⊤ := by
  simp [pow2, word, Ideal.ofBits, Ideal.ieee]

/-- The powers of two grow. -/
theorem rung_mono {i j : ℕ} (h : i ≤ j) : rung i ≤ rung j := by
  unfold rung
  exact EReal.coe_le_coe_iff.mpr (zpow_le_zpow_right₀ (by norm_num) (by omega))

/-- The powers of two are not negative. -/
theorem rung_pos (i : ℕ) : 0 ≤ rung i := by
  unfold rung
  exact EReal.coe_nonneg.mpr (by positivity)

/-- What the words denote grows with the exponent. -/
theorem pow2_mono {i j : ℕ} (h : i ≤ j) (hj : j ≤ 255) : pow2 i ≤ pow2 j := by
  rcases Nat.eq_zero_or_pos i with rfl | hi
  · rw [pow2_zero]
    rcases Nat.eq_zero_or_pos j with rfl | hj'
    · rw [pow2_zero]
    · obtain ⟨j, rfl⟩ : ∃ k, j = k + 1 := ⟨j - 1, by omega⟩
      rcases Nat.lt_or_ge (j + 1) 255 with h' | h'
      · rw [pow2_succ _ h']; exact rung_pos _
      · rw [show j + 1 = 255 by omega, pow2_top]; exact le_top
  · obtain ⟨i, rfl⟩ : ∃ k, i = k + 1 := ⟨i - 1, by omega⟩
    obtain ⟨j, rfl⟩ : ∃ k, j = k + 1 := ⟨j - 1, by omega⟩
    rcases Nat.lt_or_ge (j + 1) 255 with h' | h'
    · rw [pow2_succ _ h', pow2_succ _ (by omega)]; exact rung_mono (by omega)
    · rw [show j + 1 = 255 by omega, pow2_top]; exact le_top

/-- How many of the powers of two from `2^-126` to `2^125` are at most `y`. -/
def reached (y : EReal) : ℕ := (Finset.univ.filter fun i : Fin 252 => rung i.val ≤ y).card

/-- No more than 252 powers are reached. -/
theorem reached_le (y : EReal) : reached y ≤ 252 := by
  unfold reached
  exact (Finset.card_le_univ _).trans (by simp)

/-- The scale of a row whose scaled maximum is `y`. -/
def scaleOf (y : EReal) : EReal := if reached y = 0 then 1 else rung (reached y)

/-- The reciprocal of that scale. -/
def invOf (y : EReal) : EReal := if reached y = 0 then 1 else rung (252 - reached y)

/-! ### The kernel's search for the exponent field -/

/-- One step of the search: keep the candidate unless `a` lies below it. -/
def step (a : EReal) (b c : BitVec 32) : BitVec 32 :=
  Scalar.select (Ideal.cmp .olt a (Ideal.ofBits .f32 (b + c))) b (b + c)

/-- The state after the bits above `k` are found. -/
def Good (a : EReal) (k n : ℕ) : Prop :=
  n + 2 ^ k ≤ 256 ∧ ¬ a < pow2 n ∧ (n + 2 ^ k = 256 ∨ a < pow2 (n + 2 ^ k))

/-- Words add as their exponents do. -/
theorem word_add (n m : ℕ) : word n + word m = word (n + m) := by
  unfold word
  rw [← BitVec.ofNat_add, Nat.add_mul]

/-- One step of the search finds the next bit. -/
theorem step_good {a : EReal} {k n : ℕ} (h : Good a (k + 1) n) :
    ∃ n', Good a k n' ∧ step a (word n) (word (2 ^ k)) = word n' := by
  obtain ⟨h1, h2, h3⟩ := h
  have h2k : 2 ^ (k + 1) = 2 ^ k + 2 ^ k := by ring
  rw [h2k] at h1 h3
  have hp : 0 < 2 ^ k := by positivity
  unfold step
  rw [word_add]
  change ∃ n', Good a k n' ∧ Scalar.select (Ideal.cmp .olt a (pow2 (n + 2 ^ k))) (word n) (word (n + 2 ^ k)) = word n'
  by_cases hlt : a < pow2 (n + 2 ^ k)
  · exact ⟨n, ⟨by omega, h2, Or.inr hlt⟩, by simp [Scalar.select, Ideal.cmp, hlt]⟩
  · refine ⟨n + 2 ^ k, ⟨by omega, hlt, ?_⟩, by simp [Scalar.select, Ideal.cmp, hlt]⟩
    rcases h3 with h3 | h3
    · exact Or.inl (by omega)
    · exact Or.inr (by rwa [Nat.add_assoc])

/-- The whole search, from the top bit of the exponent field down to its lowest, and the cap. -/
def search (a : EReal) : BitVec 32 :=
  step a (step a (step a (step a (step a (step a (step a (step a 0#32 1073741824#32) 536870912#32)
    268435456#32) 134217728#32) 67108864#32) 33554432#32) 16777216#32) 8388608#32

/-- The search ends at a word with all bits found. -/
theorem search_good (a : EReal) (h : 0 ≤ a) : ∃ n, Good a 0 n ∧ search a = word n := by
  have g8 : Good a 8 0 := ⟨by norm_num, by rw [pow2_zero]; exact not_lt.mpr h, Or.inl (by norm_num)⟩
  obtain ⟨n7, g7, e7⟩ := step_good g8
  obtain ⟨n6, g6, e6⟩ := step_good g7
  obtain ⟨n5, g5, e5⟩ := step_good g6
  obtain ⟨n4, g4, e4⟩ := step_good g5
  obtain ⟨n3, g3, e3⟩ := step_good g4
  obtain ⟨n2, g2, e2⟩ := step_good g3
  obtain ⟨n1, g1, e1⟩ := step_good g2
  obtain ⟨n0, g0, e0⟩ := step_good g1
  refine ⟨n0, g0, ?_⟩
  rw [← e0, ← e1, ← e2, ← e3, ← e4, ← e5, ← e6, ← e7]
  rfl

/-- Of the 252 indices, `m` lie below `m`. -/
theorem card_below : ∀ m : Fin 253, (Finset.univ.filter fun i : Fin 252 => i.val < m.val).card = m.val := by
  decide +kernel

/-- The search ends at the number of powers reached, up to the cap. -/
theorem reached_of_good {a : EReal} {n : ℕ} (h : Good a 0 n) : reached a = min n 252 := by
  obtain ⟨h1, h2, h3⟩ := h
  have key : ∀ i : Fin 252, rung i.val ≤ a ↔ i.val < min n 252 := by
    intro i
    have hi := i.isLt
    rw [← pow2_succ i.val (by omega)]
    constructor
    · intro hle
      by_contra hc
      have hn : n + 2 ^ 0 ≤ i.val + 1 := by
        have : min n 252 ≤ i.val := by omega
        have : n ≤ i.val := by omega
        simpa using this
      rcases h3 with h3 | h3
      · omega
      · exact absurd (lt_of_lt_of_le h3 (pow2_mono hn (by omega))) (not_lt.mpr hle)
    · intro hlt
      exact (pow2_mono (by omega) (by simp at h1; omega)).trans (not_lt.mp h2)
  unfold reached
  rw [Finset.filter_congr (fun i _ => key i)]
  exact card_below ⟨min n 252, by omega⟩

/-- The cap of a word is the word of the capped exponent. -/
theorem min_word : ∀ n : Fin 256, (if (word n.val).slt 2113929216#32 then word n.val else 2113929216#32) = word (min n.val 252) := by
  decide +kernel

/-- The exponent word the kernel finds. -/
theorem search_eq (a : EReal) (h : 0 ≤ a) : IntOp.minsi (search a) 2113929216#32 = word (reached a) := by
  obtain ⟨n, hg, hs⟩ := search_good a h
  have hn : n < 256 := by have := hg.1; simp at this; omega
  rw [hs, reached_of_good hg]
  exact min_word ⟨n, hn⟩

/-- A word is zero exactly when its exponent is. -/
theorem word_zero_iff : ∀ n : Fin 253, IntOp.cmpi .eq (word n.val) 0#32 = if n.val = 0 then 1#1 else 0#1 := by
  decide +kernel

/-- 253 less a word is the word of 253 less its exponent. -/
theorem word_inv : ∀ n : Fin 253, IntOp.subi 2122317824#32 (word n.val) = word (253 - n.val) := by
  decide +kernel

/-- The kernel's scale, read off its exponent word. -/
theorem kernel_scale (y : EReal) :
    Scalar.select (IntOp.cmpi .eq (word (reached y)) 0#32) 1 (Ideal.ofBits .f32 (IntOp.addi (word (reached y)) 8388608#32))
      = scaleOf y := by
  have hr := reached_le y
  rw [word_zero_iff ⟨reached y, by omega⟩]
  unfold scaleOf
  by_cases h0 : reached y = 0
  · simp [h0, Scalar.select]
  · simp only [h0, if_false, Scalar.select]
    rw [if_neg (by decide), show IntOp.addi (word (reached y)) 8388608#32 = word (reached y + 1) from word_add _ 1]
    exact pow2_succ _ (by omega)

/-- The kernel's reciprocal scale. -/
theorem kernel_inv (y : EReal) :
    Scalar.select (IntOp.cmpi .eq (word (reached y)) 0#32) 1 (Ideal.ofBits .f32 (IntOp.subi 2122317824#32 (word (reached y))))
      = invOf y := by
  have hr := reached_le y
  rw [word_zero_iff ⟨reached y, by omega⟩, word_inv ⟨reached y, by omega⟩]
  unfold invOf
  by_cases h0 : reached y = 0
  · simp [h0, Scalar.select]
  · simp only [h0, if_false, Scalar.select]
    rw [if_neg (by decide), show 253 - reached y = 252 - reached y + 1 by omega]
    exact pow2_succ _ (by omega)

/-! ### The reference's count of powers -/

/-- A sum of ones over the powers reached is their number. -/
theorem sum_reached (y : EReal) :
    (∑ i : Fin 252, (if rung i.val ≤ y then (1 : EReal) else 0)) = ((reached y : ℝ) : EReal) := by
  rw [Finset.sum_boole]
  rfl

/-- The exponent of the reference: none for a row below every power, else the count less 126. -/
def expoOf (y : EReal) : EReal := if reached y = 0 then 0 else (((reached y : ℝ) - 126 : ℝ) : EReal)

/-- Two to the exponent is the scale. -/
theorem exp2_expoOf (y : EReal) : Ideal.exp2 (expoOf y) = scaleOf y := by
  unfold expoOf scaleOf
  by_cases h0 : reached y = 0
  · simp only [h0, if_true]
    rw [show (0 : EReal) = ((0 : ℝ) : EReal) from rfl, Ideal.exp2_coe]
    simp
  · simp only [h0, if_false]
    rw [Ideal.exp2_coe]
    unfold rung
    congr 1
    have : ((reached y : ℝ) - 126) = (((reached y : ℤ) - 126 : ℤ) : ℝ) := by push_cast; ring
    rw [this]
    exact Real.rpow_intCast 2 _

/-- Two to the negated exponent is the reciprocal of the scale. -/
theorem exp2_neg_expoOf (y : EReal) : Ideal.exp2 (0 - expoOf y) = invOf y := by
  have hr := reached_le y
  unfold expoOf invOf
  by_cases h0 : reached y = 0
  · simp only [h0, if_true]
    rw [sub_zero, show (0 : EReal) = ((0 : ℝ) : EReal) from rfl, Ideal.exp2_coe]
    simp
  · simp only [h0, if_false]
    rw [show (0 : EReal) = ((0 : ℝ) : EReal) from rfl, ← EReal.coe_sub, Ideal.exp2_coe]
    unfold rung
    congr 1
    have : (0 - ((reached y : ℝ) - 126)) = ((((252 - reached y : ℕ) : ℤ) - 126 : ℤ) : ℝ) := by
      push_cast [Nat.cast_sub hr]; ring
    rw [this]
    exact Real.rpow_intCast 2 _

end Cert.Proof

end
-- ==== Proof.Spec.lean ====
module

public import proofs.«01_k».proof.Proof.Scale

@[expose] public section

set_option maxRecDepth 16384

noncomputable section

namespace Cert.Proof

open Idealize.ShloMosaic

/-! The mathematics of one row: both programs compute each row of their results by these functions. -/

/-- The largest magnitude of a row. -/
def rowMax (v : Fin 1152 → EReal) : EReal := Finset.univ.fold max ⊥ fun k => max (v k) (-(v k))

/-- The row maximum over the largest code. -/
def scaled (v : Fin 1152 → EReal) : EReal := rowMax v * Ideal.ofBits .f32 991054117#32

/-- The scale of a row. -/
def sOf (v : Fin 1152 → EReal) : EReal := scaleOf (scaled v)

/-- The codes of a row. -/
def codeOf (v : Fin 1152 → EReal) (k : Fin 1152) : EReal :=
  min (Ideal.ofBits .f32 1138753536#32) (max (Ideal.ofBits .f32 3286237184#32) (v k * invOf (scaled v)))

/-- The largest of four logits. -/
def gmax (g : Fin 4 → EReal) : EReal := max (max (g 0) (g 1)) (max (g 2) (g 3))

/-- The softmax of four logits. -/
def gate (g : Fin 4 → EReal) (e : Fin 4) : EReal :=
  Ideal.div (Ideal.exp (g e - gmax g))
    (Ideal.exp (g 0 - gmax g) + Ideal.exp (g 1 - gmax g) + (Ideal.exp (g 2 - gmax g) + Ideal.exp (g 3 - gmax g)))

/-- One expert's gated hidden row. -/
def hid (γ s : EReal) (c : Fin 1152 → EReal) (wv : Fin 1152 → Fin 256 → EReal) (wvs : Fin 256 → EReal)
    (wc : Fin 256 → Fin 256 → EReal) (j : Fin 256) : EReal :=
  γ * Ideal.tanh (∑ i, Ideal.tanh ((∑ k, c k * wv k i) * s * wvs i) * wc i j)

/-- The weights of the two layers. -/
structure Wts where
  /-- gate weights -/
  wg : Fin 2 → Fin 4 → Fin 1152 → EReal
  /-- codes of the first factor -/
  wv : Fin 2 → Fin 4 → Fin 1152 → Fin 256 → EReal
  /-- scales of the first factor -/
  wvs : Fin 2 → Fin 4 → Fin 256 → EReal
  /-- the inner factor -/
  wc : Fin 2 → Fin 4 → Fin 256 → Fin 256 → EReal
  /-- codes of the last factor -/
  wu : Fin 2 → Fin 4 → Fin 256 → Fin 1152 → EReal
  /-- scales of the last factor -/
  wus : Fin 2 → Fin 4 → Fin 1152 → EReal
  /-- biases -/
  b : Fin 2 → Fin 4 → Fin 1152 → EReal

/-- The gate logits of a row. -/
def lg (W : Wts) (l : Fin 2) (v : Fin 1152 → EReal) (e : Fin 4) : EReal := ∑ k, v k * W.wg l e k

/-- One expert's part of the layer's sum. -/
def part (W : Wts) (l : Fin 2) (v : Fin 1152 → EReal) (d : Fin 1152) (e : Fin 4) : EReal :=
  ∑ j, hid (gate (lg W l v) e) (sOf v) (codeOf v) (W.wv l e) (W.wvs l e) (W.wc l e) j * (W.wu l e j d * W.wus l e d)

/-- One layer: from the row of the input and the row before the layer, the row after it. -/
def layer (W : Wts) (l : Fin 2) (x v : Fin 1152 → EReal) (d : Fin 1152) : EReal :=
  x d * (part W l v d 0 + part W l v d 1 + part W l v d 2 + part W l v d 3
      + (gate (lg W l v) 0 * W.b l 0 d + gate (lg W l v) 1 * W.b l 1 d + gate (lg W l v) 2 * W.b l 2 d
        + gate (lg W l v) 3 * W.b l 3 d)) + v d

/-- The row after the first layer. -/
def mid (W : Wts) (x : Fin 1152 → EReal) : Fin 1152 → EReal := layer W 0 x x

/-- The row after both layers. -/
def fin (W : Wts) (x : Fin 1152 → EReal) : Fin 1152 → EReal := layer W 1 x (mid W x)

/-- The f32 word of minus infinity denotes the bottom. -/
theorem bot_f32 : Ideal.ofBits .f32 0xFF800000#32 = ⊥ := by simp [Ideal.ofBits, Ideal.ieee]
/-- The bfloat16 word of minus infinity denotes the bottom. -/
theorem bot_bf16 : Ideal.ofBits .bf16 0xFF80#16 = ⊥ := by simp [Ideal.ofBits, Ideal.ieee]
/-- One over the largest code is not negative. -/
theorem ratio_nonneg : 0 ≤ Ideal.ofBits .f32 991054117#32 := by
  simp [Ideal.ofBits, Ideal.ieee, -EReal.coe_mul]

/-- A magnitude is not negative. -/
theorem mag_nonneg (x : EReal) : 0 ≤ max x (-x) := by
  rcases le_total 0 x with h | h
  · exact le_max_of_le_left h
  · exact le_max_of_le_right (EReal.neg_nonneg.mpr h)

/-- A row's largest magnitude is not negative. -/
theorem rowMax_nonneg (v : Fin 1152 → EReal) : 0 ≤ rowMax v := by
  unfold rowMax
  exact (Finset.le_fold_max _).mpr (Or.inr ⟨0, Finset.mem_univ _, mag_nonneg _⟩)

/-- A row's scaled maximum is not negative. -/
theorem scaled_nonneg (v : Fin 1152 → EReal) : 0 ≤ scaled v :=
  mul_nonneg (rowMax_nonneg v) ratio_nonneg

/-- The magnitude of what is not negative is itself. -/
theorem mag_of_nonneg {x : EReal} (h : 0 ≤ x) : max x (-x) = x := by
  have h2 : -x ≤ 0 := by simpa using (EReal.neg_le_neg_iff (a := x) (b := 0)).mpr h
  exact
    max_eq_left (h2.trans h)

end Cert.Proof

end
-- ==== Proof.Block.lean ====
module
public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! What one grid point writes, as a function of the blocks it reads. -/

/-- The first layer's scales. -/
def kS0 (x0 : Vec Ideal S512x1152 .bf16) : FVec Ideal S512x1 .f32 := k0_pay26 (k0_pay20 x0) (k0_pay21 x0) (k0_pay22 x0) (k0_pay23 x0)

/-- The first layer's codes. -/
def kC0 (x0 : Vec Ideal S512x1152 .bf16) : FVec Ideal S512x1152 .fp8e4m3 := k0_pay27 (k0_pay19 x0) (k0_pay20 x0) (k0_pay21 x0) (k0_pay22 x0) (k0_pay23 x0)

/-- The first layer's gate logits. -/
def kR0 (x0 : Vec Ideal S512x1152 .bf16) (xs1 : Vec Ideal S128x1152 .bf16) : FVec Ideal S512x128 .f32 := k0_pay28 (k0_pay19 x0) xs1

/-- The first layer's sum over the experts. -/
def kAcc (x0 : Vec Ideal S512x1152 .bf16) (x2 : Vec Ideal S2x1152x1024 .fp8e4m3) (x3 : Vec Ideal S2x4x256 .f32)
    (x4 : Vec Ideal S2x4x256x256 .bf16) (x7 : Vec Ideal S2x4x1152 .f32) (xs0 : Vec Ideal S2x1024x1152 .bf16) (xs1 : Vec Ideal S128x1152 .bf16) : FVec Ideal S512x1152 .f32 :=
  k0_pay48 (kS0 x0) (kC0 x0) (k0_pay43 (kR0 x0 xs1)) (k0_pay45 (kS0 x0) (kC0 x0) (kR0 x0 xs1) (View.ld x2 (Rect.unit (s := S2x1152x1024) ![0, 0, 0] S1x1152x256.size inb_S2x1152x1024_S1x1152x256_0_0_0)) (View.ld x3 (Rect.unit (s := S2x4x256) ![0, 0, 0] S1x1x256.size inb_S2x4x256_S1x1x256_0_0_0)) (View.ld x4 (Rect.unit (s := S2x4x256x256) ![0, 0, 0, 0] S1x1x256x256.size inb_S2x4x256x256_S1x1x256x256_0_0_0_0))) (k0_pay46 (kS0 x0) (kC0 x0) (k0_pay41 (kR0 x0 xs1)) (View.ld x2 (Rect.unit (s := S2x1152x1024) ![0, 0, 256] S1x1152x256.size inb_S2x1152x1024_S1x1152x256_0_0_256)) (View.ld x3 (Rect.unit (s := S2x4x256) ![0, 1, 0] S1x1x256.size inb_S2x4x256_S1x1x256_0_1_0)) (View.ld x4 (Rect.unit (s := S2x4x256x256) ![0, 1, 0, 0] S1x1x256x256.size inb_S2x4x256x256_S1x1x256x256_0_1_0_0)))
    (k0_pay47 (kS0 x0) (kC0 x0) (k0_pay42 (kR0 x0 xs1)) (View.ld x2 (Rect.unit (s := S2x1152x1024) ![0, 0, 512] S1x1152x256.size inb_S2x1152x1024_S1x1152x256_0_0_512)) (View.ld x3 (Rect.unit (s := S2x4x256) ![0, 2, 0] S1x1x256.size inb_S2x4x256_S1x1x256_0_2_0)) (View.ld x4 (Rect.unit (s := S2x4x256x256) ![0, 2, 0, 0] S1x1x256x256.size inb_S2x4x256x256_S1x1x256x256_0_2_0_0))) (View.ld x2 (Rect.unit (s := S2x1152x1024) ![0, 0, 768] S1x1152x256.size inb_S2x1152x1024_S1x1152x256_0_0_768)) (View.ld x3 (Rect.unit (s := S2x4x256) ![0, 3, 0] S1x1x256.size inb_S2x4x256_S1x1x256_0_3_0)) (View.ld x4 (Rect.unit (s := S2x4x256x256) ![0, 3, 0, 0] S1x1x256x256.size inb_S2x4x256x256_S1x1x256x256_0_3_0_0)) (View.ld xs0 (Rect.unit (s := S2x1024x1152) ![0, 0, 0] S1x1024x1152.size inb_S2x1024x1152_S1x1024x1152_0_0_0))

/-- The rows after the first layer. -/
def kX1 (x0 : Vec Ideal S512x1152 .bf16) (x2 : Vec Ideal S2x1152x1024 .fp8e4m3) (x3 : Vec Ideal S2x4x256 .f32)
    (x4 : Vec Ideal S2x4x256x256 .bf16) (x7 : Vec Ideal S2x4x1152 .f32) (xs0 : Vec Ideal S2x1024x1152 .bf16) (xs1 : Vec Ideal S128x1152 .bf16) : FVec Ideal S512x1152 .f32 :=
  k0_pay51 (k0_pay43 (kR0 x0 xs1)) (k0_pay44 (k0_pay19 x0)) (kAcc x0 x2 x3 x4 x7 xs0 xs1) (k0_pay49 (k0_pay40 (kR0 x0 xs1)) (k0_pay41 (kR0 x0 xs1)) (View.ld x7 (Rect.unit (s := S2x4x1152) ![0, 0, 0] S1x1x1152.size inb_S2x4x1152_S1x1x1152_0_0_0)) (View.ld x7 (Rect.unit (s := S2x4x1152) ![0, 1, 0] S1x1x1152.size inb_S2x4x1152_S1x1x1152_0_1_0))) (k0_pay50 (k0_pay42 (kR0 x0 xs1)) (View.ld x7 (Rect.unit (s := S2x4x1152) ![0, 2, 0] S1x1x1152.size inb_S2x4x1152_S1x1x1152_0_2_0))) (View.ld x7 (Rect.unit (s := S2x4x1152) ![0, 3, 0] S1x1x1152.size inb_S2x4x1152_S1x1x1152_0_3_0))

/-- The second layer's scaled row maximum. -/
def kM1 (x0 : Vec Ideal S512x1152 .bf16) (x2 : Vec Ideal S2x1152x1024 .fp8e4m3) (x3 : Vec Ideal S2x4x256 .f32)
    (x4 : Vec Ideal S2x4x256x256 .bf16) (x7 : Vec Ideal S2x4x1152 .f32) (xs0 : Vec Ideal S2x1024x1152 .bf16) (xs1 : Vec Ideal S128x1152 .bf16) : FVec Ideal S512x1 .f32 :=
  k0_pay52 (k0_pay43 (kR0 x0 xs1)) (k0_pay44 (k0_pay19 x0)) (kAcc x0 x2 x3 x4 x7 xs0 xs1) (k0_pay49 (k0_pay40 (kR0 x0 xs1)) (k0_pay41 (kR0 x0 xs1)) (View.ld x7 (Rect.unit (s := S2x4x1152) ![0, 0, 0] S1x1x1152.size inb_S2x4x1152_S1x1x1152_0_0_0)) (View.ld x7 (Rect.unit (s := S2x4x1152) ![0, 1, 0] S1x1x1152.size inb_S2x4x1152_S1x1x1152_0_1_0))) (k0_pay50 (k0_pay42 (kR0 x0 xs1)) (View.ld x7 (Rect.unit (s := S2x4x1152) ![0, 2, 0] S1x1x1152.size inb_S2x4x1152_S1x1x1152_0_2_0))) (View.ld x7 (Rect.unit (s := S2x4x1152) ![0, 3, 0] S1x1x1152.size inb_S2x4x1152_S1x1x1152_0_3_0))

/-- The second layer's search, up to its last two steps. -/
def kN1 (x0 : Vec Ideal S512x1152 .bf16) (x2 : Vec Ideal S2x1152x1024 .fp8e4m3) (x3 : Vec Ideal S2x4x256 .f32)
    (x4 : Vec Ideal S2x4x256x256 .bf16) (x7 : Vec Ideal S2x4x1152 .f32) (xs0 : Vec Ideal S2x1024x1152 .bf16) (xs1 : Vec Ideal S128x1152 .bf16) : IVec S512x1 32 :=
  k0_pay53 (k0_pay43 (kR0 x0 xs1)) (k0_pay44 (k0_pay19 x0)) (kAcc x0 x2 x3 x4 x7 xs0 xs1) (k0_pay49 (k0_pay40 (kR0 x0 xs1)) (k0_pay41 (kR0 x0 xs1)) (View.ld x7 (Rect.unit (s := S2x4x1152) ![0, 0, 0] S1x1x1152.size inb_S2x4x1152_S1x1x1152_0_0_0)) (View.ld x7 (Rect.unit (s := S2x4x1152) ![0, 1, 0] S1x1x1152.size inb_S2x4x1152_S1x1x1152_0_1_0))) (k0_pay50 (k0_pay42 (kR0 x0 xs1)) (View.ld x7 (Rect.unit (s := S2x4x1152) ![0, 2, 0] S1x1x1152.size inb_S2x4x1152_S1x1x1152_0_2_0))) (View.ld x7 (Rect.unit (s := S2x4x1152) ![0, 3, 0] S1x1x1152.size inb_S2x4x1152_S1x1x1152_0_3_0))

/-- The second layer's scales. -/
def kS1 (x0 : Vec Ideal S512x1152 .bf16) (x2 : Vec Ideal S2x1152x1024 .fp8e4m3) (x3 : Vec Ideal S2x4x256 .f32)
    (x4 : Vec Ideal S2x4x256x256 .bf16) (x7 : Vec Ideal S2x4x1152 .f32) (xs0 : Vec Ideal S2x1024x1152 .bf16) (xs1 : Vec Ideal S128x1152 .bf16) : FVec Ideal S512x1 .f32 := k0_pay56 (kM1 x0 x2 x3 x4 x7 xs0 xs1) (kN1 x0 x2 x3 x4 x7 xs0 xs1) 16777216#32

/-- The second layer's codes. -/
def kC1 (x0 : Vec Ideal S512x1152 .bf16) (x2 : Vec Ideal S2x1152x1024 .fp8e4m3) (x3 : Vec Ideal S2x4x256 .f32)
    (x4 : Vec Ideal S2x4x256x256 .bf16) (x7 : Vec Ideal S2x4x1152 .f32) (xs0 : Vec Ideal S2x1024x1152 .bf16) (xs1 : Vec Ideal S128x1152 .bf16) : FVec Ideal S512x1152 .fp8e4m3 := k0_pay57 (kX1 x0 x2 x3 x4 x7 xs0 xs1) (kM1 x0 x2 x3 x4 x7 xs0 xs1) (kN1 x0 x2 x3 x4 x7 xs0 xs1) 16777216#32

/-- The rows after both layers. -/
def kY (x0 : Vec Ideal S512x1152 .bf16) (x1 : Vec Ideal S2x4x1152 .f32) (x2 : Vec Ideal S2x1152x1024 .fp8e4m3) (x3 : Vec Ideal S2x4x256 .f32)
    (x4 : Vec Ideal S2x4x256x256 .bf16) (x7 : Vec Ideal S2x4x1152 .f32) (xs0 : Vec Ideal S2x1024x1152 .bf16) (xs1 : Vec Ideal S128x1152 .bf16) : FVec Ideal S512x1152 .bf16 :=
  k0_pay82 (k0_pay19 x0) (kX1 x0 x2 x3 x4 x7 xs0 xs1) (k0_pay71 (k0_pay65 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay67 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay68 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay69 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0)))) (k0_pay72 (k0_pay66 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay67 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay68 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay69 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0)))) (k0_pay73 (k0_pay67 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay68 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay69 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0)))) (k0_pay74 (k0_pay67 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay68 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay69 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))))
    (k0_pay75 (kS1 x0 x2 x3 x4 x7 xs0 xs1) (kC1 x0 x2 x3 x4 x7 xs0 xs1) (k0_pay65 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay67 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay68 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay69 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (View.ld x2 (Rect.unit (s := S2x1152x1024) ![1, 0, 0] S1x1152x256.size inb_S2x1152x1024_S1x1152x256_1_0_0)) (View.ld x3 (Rect.unit (s := S2x4x256) ![1, 0, 0] S1x1x256.size inb_S2x4x256_S1x1x256_1_0_0)) (View.ld x4 (Rect.unit (s := S2x4x256x256) ![1, 0, 0, 0] S1x1x256x256.size inb_S2x4x256x256_S1x1x256x256_1_0_0_0)))
    (k0_pay78 (k0_pay72 (k0_pay66 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay67 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay68 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay69 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0)))) (k0_pay76 (kS1 x0 x2 x3 x4 x7 xs0 xs1) (kC1 x0 x2 x3 x4 x7 xs0 xs1) (View.ld x2 (Rect.unit (s := S2x1152x1024) ![1, 0, 256] S1x1152x256.size inb_S2x1152x1024_S1x1152x256_1_0_256)) (View.ld x3 (Rect.unit (s := S2x4x256) ![1, 1, 0] S1x1x256.size inb_S2x4x256_S1x1x256_1_1_0))) (k0_pay77 (View.ld x4 (Rect.unit (s := S2x4x256x256) ![1, 1, 0, 0] S1x1x256x256.size inb_S2x4x256x256_S1x1x256x256_1_1_0_0))))
    (k0_pay79 (kS1 x0 x2 x3 x4 x7 xs0 xs1) (kC1 x0 x2 x3 x4 x7 xs0 xs1) (k0_pay73 (k0_pay67 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay68 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) (k0_pay69 (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0)))) (View.ld x2 (Rect.unit (s := S2x1152x1024) ![1, 0, 512] S1x1152x256.size inb_S2x1152x1024_S1x1152x256_1_0_512)) (View.ld x3 (Rect.unit (s := S2x4x256) ![1, 2, 0] S1x1x256.size inb_S2x4x256_S1x1x256_1_2_0)) (View.ld x4 (Rect.unit (s := S2x4x256x256) ![1, 2, 0, 0] S1x1x256x256.size inb_S2x4x256x256_S1x1x256x256_1_2_0_0))) (k0_pay80 (kS1 x0 x2 x3 x4 x7 xs0 xs1) (kC1 x0 x2 x3 x4 x7 xs0 xs1) (View.ld x2 (Rect.unit (s := S2x1152x1024) ![1, 0, 768] S1x1152x256.size inb_S2x1152x1024_S1x1152x256_1_0_768)) (View.ld x3 (Rect.unit (s := S2x4x256) ![1, 3, 0] S1x1x256.size inb_S2x4x256_S1x1x256_1_3_0))) (k0_pay81 (View.ld x4 (Rect.unit (s := S2x4x256x256) ![1, 3, 0, 0] S1x1x256x256.size inb_S2x4x256x256_S1x1x256x256_1_3_0_0)))
    (View.ld xs0 (Rect.unit (s := S2x1024x1152) ![1, 0, 0] S1x1024x1152.size inb_S2x1024x1152_S1x1024x1152_1_0_0)) (View.ld x7 (Rect.unit (s := S2x4x1152) ![1, 0, 0] S1x1x1152.size inb_S2x4x1152_S1x1x1152_1_0_0)) (View.ld x7 (Rect.unit (s := S2x4x1152) ![1, 1, 0] S1x1x1152.size inb_S2x4x1152_S1x1x1152_1_1_0)) (View.ld x7 (Rect.unit (s := S2x4x1152) ![1, 2, 0] S1x1x1152.size inb_S2x4x1152_S1x1x1152_1_2_0)) (View.ld x7 (Rect.unit (s := S2x4x1152) ![1, 3, 0] S1x1x1152.size inb_S2x4x1152_S1x1x1152_1_3_0))

/-- The logits and the scales. -/
def kMisc (x0 : Vec Ideal S512x1152 .bf16) (x1 : Vec Ideal S2x4x1152 .f32) (x2 : Vec Ideal S2x1152x1024 .fp8e4m3) (x3 : Vec Ideal S2x4x256 .f32)
    (x4 : Vec Ideal S2x4x256x256 .bf16) (x7 : Vec Ideal S2x4x1152 .f32) (xs0 : Vec Ideal S2x1024x1152 .bf16) (xs1 : Vec Ideal S128x1152 .bf16) : FVec Ideal S16x512 .f32 :=
  k0_pay1 (iota .tc S512x128 32 [1] iota_S512x128_d1_w32) (kS0 x0) (kS1 x0 x2 x3 x4 x7 xs0 xs1) (k0_pay63 (iota .tc S512x128 32 [1] iota_S512x128_d1_w32) (k0_pay33 (iota .tc S512x128 32 [1] iota_S512x128_d1_w32) k0_pay18 (kR0 x0 xs1)) (kX1 x0 x2 x3 x4 x7 xs0 xs1) (k0_pay58 (kX1 x0 x2 x3 x4 x7 xs0 xs1) (View.ld x1 (Rect.unit (s := S2x4x1152) ![1, 0, 0] S1x1x1152.size inb_S2x4x1152_S1x1x1152_1_0_0))) (k0_pay59 (View.ld x1 (Rect.unit (s := S2x4x1152) ![1, 1, 0] S1x1x1152.size inb_S2x4x1152_S1x1x1152_1_1_0))) (View.ld x1 (Rect.unit (s := S2x4x1152) ![1, 2, 0] S1x1x1152.size inb_S2x4x1152_S1x1x1152_1_2_0)) (View.ld x1 (Rect.unit (s := S2x4x1152) ![1, 3, 0] S1x1x1152.size inb_S2x4x1152_S1x1x1152_1_3_0))) k0_pay83

/-- The weights that the blocks hold. -/
def wts (x1 : Vec Ideal S2x4x1152 .f32) (x2 : Vec Ideal S2x1152x1024 .fp8e4m3) (x3 : Vec Ideal S2x4x256 .f32)
    (x4 : Vec Ideal S2x4x256x256 .bf16) (x5 : Vec Ideal S2x1024x1152 .fp8e4m3) (x6 : Vec Ideal S2x4x1152 .f32) (x7 : Vec Ideal S2x4x1152 .f32) : Wts where
  wg l e k := x1 (ix3 l e k)
  wv l e k j := x2 (ix3 l k (⟨256 * e.val + j.val, by omega⟩ : Fin 1024))
  wvs l e j := x3 (ix3 l e j)
  wc l e i j := x4 (ix4 l e i j)
  wu l e j d := x5 (ix3 l (⟨256 * e.val + j.val, by omega⟩ : Fin 1024) d)
  wus l e d := x6 (ix3 l e d)
  b l e d := x7 (ix3 l e d)

end Cert.Proof
end
-- ==== Proof.Loads.lean ====
module
public import proofs.«01_k».proof.Proof.Gen.KernelIdeal.Frame
public import proofs.«01_k».proof.Proof.Spec
public import proofs.«01_k».proof.Proof.Block
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The loads from the weights' blocks, at an index. -/

section
variable (x1 : Vec Ideal S2x4x1152 .f32) (x2 : Vec Ideal S2x1152x1024 .fp8e4m3) (x3 : Vec Ideal S2x4x256 .f32) (x4 : Vec Ideal S2x4x256x256 .bf16) (x5 : Vec Ideal S2x1024x1152 .fp8e4m3) (x6 : Vec Ideal S2x4x1152 .f32) (x7 : Vec Ideal S2x4x1152 .f32)

/-- The codes of the first factor of layer 0, expert 0, read. -/
theorem ld_wv00 (k : Fin 1152) (j : Fin 256) : (View.ld x2 (Rect.unit (s := S2x1152x1024) ![0, 0, 0] S1x1152x256.size inb_S2x1152x1024_S1x1152x256_0_0_0)) (ix3 0 k j) = (wts x1 x2 x3 x4 x5 x6 x7).wv 0 0 k j := by
  pointwise [wts] <;> first | rfl | exact congrArg x2 (congrArg (ix3 _ _) (Fin.ext (by simp)))

/-- The scales of the first factor of layer 0, expert 0, read. -/
theorem ld_wvs00 (j : Fin 256) : (View.ld x3 (Rect.unit (s := S2x4x256) ![0, 0, 0] S1x1x256.size inb_S2x4x256_S1x1x256_0_0_0)) (ix3 0 0 j) = (wts x1 x2 x3 x4 x5 x6 x7).wvs 0 0 j := by
  pointwise [wts] <;> rfl

/-- The inner factor of layer 0, expert 0, read. -/
theorem ld_wc00 (i j : Fin 256) : (View.ld x4 (Rect.unit (s := S2x4x256x256) ![0, 0, 0, 0] S1x1x256x256.size inb_S2x4x256x256_S1x1x256x256_0_0_0_0)) (ix4 0 0 i j) = (wts x1 x2 x3 x4 x5 x6 x7).wc 0 0 i j := by
  pointwise [wts] <;> rfl

/-- The biases of layer 0, expert 0, read. -/
theorem ld_b00 (d : Fin 1152) : (View.ld x7 (Rect.unit (s := S2x4x1152) ![0, 0, 0] S1x1x1152.size inb_S2x4x1152_S1x1x1152_0_0_0)) (ix3 0 0 d) = (wts x1 x2 x3 x4 x5 x6 x7).b 0 0 d := by
  pointwise [wts] <;> rfl

/-- The codes of the first factor of layer 0, expert 1, read. -/
theorem ld_wv01 (k : Fin 1152) (j : Fin 256) : (View.ld x2 (Rect.unit (s := S2x1152x1024) ![0, 0, 256] S1x1152x256.size inb_S2x1152x1024_S1x1152x256_0_0_256)) (ix3 0 k j) = (wts x1 x2 x3 x4 x5 x6 x7).wv 0 1 k j := by
  pointwise [wts] <;> first | rfl | exact congrArg x2 (congrArg (ix3 _ _) (Fin.ext (by simp)))

/-- The scales of the first factor of layer 0, expert 1, read. -/
theorem ld_wvs01 (j : Fin 256) : (View.ld x3 (Rect.unit (s := S2x4x256) ![0, 1, 0] S1x1x256.size inb_S2x4x256_S1x1x256_0_1_0)) (ix3 0 0 j) = (wts x1 x2 x3 x4 x5 x6 x7).wvs 0 1 j := by
  pointwise [wts] <;> rfl

/-- The inner factor of layer 0, expert 1, read. -/
theorem ld_wc01 (i j : Fin 256) : (View.ld x4 (Rect.unit (s := S2x4x256x256) ![0, 1, 0, 0] S1x1x256x256.size inb_S2x4x256x256_S1x1x256x256_0_1_0_0)) (ix4 0 0 i j) = (wts x1 x2 x3 x4 x5 x6 x7).wc 0 1 i j := by
  pointwise [wts] <;> rfl

/-- The biases of layer 0, expert 1, read. -/
theorem ld_b01 (d : Fin 1152) : (View.ld x7 (Rect.unit (s := S2x4x1152) ![0, 1, 0] S1x1x1152.size inb_S2x4x1152_S1x1x1152_0_1_0)) (ix3 0 0 d) = (wts x1 x2 x3 x4 x5 x6 x7).b 0 1 d := by
  pointwise [wts] <;> rfl

/-- The codes of the first factor of layer 0, expert 2, read. -/
theorem ld_wv02 (k : Fin 1152) (j : Fin 256) : (View.ld x2 (Rect.unit (s := S2x1152x1024) ![0, 0, 512] S1x1152x256.size inb_S2x1152x1024_S1x1152x256_0_0_512)) (ix3 0 k j) = (wts x1 x2 x3 x4 x5 x6 x7).wv 0 2 k j := by
  pointwise [wts] <;> first | rfl | exact congrArg x2 (congrArg (ix3 _ _) (Fin.ext (by simp)))

/-- The scales of the first factor of layer 0, expert 2, read. -/
theorem ld_wvs02 (j : Fin 256) : (View.ld x3 (Rect.unit (s := S2x4x256) ![0, 2, 0] S1x1x256.size inb_S2x4x256_S1x1x256_0_2_0)) (ix3 0 0 j) = (wts x1 x2 x3 x4 x5 x6 x7).wvs 0 2 j := by
  pointwise [wts] <;> rfl

/-- The inner factor of layer 0, expert 2, read. -/
theorem ld_wc02 (i j : Fin 256) : (View.ld x4 (Rect.unit (s := S2x4x256x256) ![0, 2, 0, 0] S1x1x256x256.size inb_S2x4x256x256_S1x1x256x256_0_2_0_0)) (ix4 0 0 i j) = (wts x1 x2 x3 x4 x5 x6 x7).wc 0 2 i j := by
  pointwise [wts] <;> rfl

/-- The biases of layer 0, expert 2, read. -/
theorem ld_b02 (d : Fin 1152) : (View.ld x7 (Rect.unit (s := S2x4x1152) ![0, 2, 0] S1x1x1152.size inb_S2x4x1152_S1x1x1152_0_2_0)) (ix3 0 0 d) = (wts x1 x2 x3 x4 x5 x6 x7).b 0 2 d := by
  pointwise [wts] <;> rfl

/-- The codes of the first factor of layer 0, expert 3, read. -/
theorem ld_wv03 (k : Fin 1152) (j : Fin 256) : (View.ld x2 (Rect.unit (s := S2x1152x1024) ![0, 0, 768] S1x1152x256.size inb_S2x1152x1024_S1x1152x256_0_0_768)) (ix3 0 k j) = (wts x1 x2 x3 x4 x5 x6 x7).wv 0 3 k j := by
  pointwise [wts] <;> first | rfl | exact congrArg x2 (congrArg (ix3 _ _) (Fin.ext (by simp)))

/-- The scales of the first factor of layer 0, expert 3, read. -/
theorem ld_wvs03 (j : Fin 256) : (View.ld x3 (Rect.unit (s := S2x4x256) ![0, 3, 0] S1x1x256.size inb_S2x4x256_S1x1x256_0_3_0)) (ix3 0 0 j) = (wts x1 x2 x3 x4 x5 x6 x7).wvs 0 3 j := by
  pointwise [wts] <;> rfl

/-- The inner factor of layer 0, expert 3, read. -/
theorem ld_wc03 (i j : Fin 256) : (View.ld x4 (Rect.unit (s := S2x4x256x256) ![0, 3, 0, 0] S1x1x256x256.size inb_S2x4x256x256_S1x1x256x256_0_3_0_0)) (ix4 0 0 i j) = (wts x1 x2 x3 x4 x5 x6 x7).wc 0 3 i j := by
  pointwise [wts] <;> rfl

/-- The biases of layer 0, expert 3, read. -/
theorem ld_b03 (d : Fin 1152) : (View.ld x7 (Rect.unit (s := S2x4x1152) ![0, 3, 0] S1x1x1152.size inb_S2x4x1152_S1x1x1152_0_3_0)) (ix3 0 0 d) = (wts x1 x2 x3 x4 x5 x6 x7).b 0 3 d := by
  pointwise [wts] <;> rfl

/-- The scaled last factor of layer 0, expert 0, in the scratch buffer's rows. -/
theorem ld_u00 (xs0 : Vec Ideal S2x1024x1152 .bf16)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d)
    (j : Fin 256) (d : Fin 1152) :
    (View.ld xs0 (Rect.unit (s := S2x1024x1152) ![0, 0, 0] S1x1024x1152.size inb_S2x1024x1152_S1x1024x1152_0_0_0)) (ix3 0 (⟨j.val, by omega⟩ : Fin 1024) d) = (wts x1 x2 x3 x4 x5 x6 x7).wu 0 0 j d * (wts x1 x2 x3 x4 x5 x6 x7).wus 0 0 d := by
  rw [← hU]
  pointwise [] <;> first | rfl | exact congrArg xs0 (congrArg (fun q => ix3 _ q _) (Fin.ext (by simp)))

/-- The scaled last factor of layer 0, expert 1, in the scratch buffer's rows. -/
theorem ld_u01 (xs0 : Vec Ideal S2x1024x1152 .bf16)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d)
    (j : Fin 256) (d : Fin 1152) :
    (View.ld xs0 (Rect.unit (s := S2x1024x1152) ![0, 0, 0] S1x1024x1152.size inb_S2x1024x1152_S1x1024x1152_0_0_0)) (ix3 0 (⟨256 + j.val, by omega⟩ : Fin 1024) d) = (wts x1 x2 x3 x4 x5 x6 x7).wu 0 1 j d * (wts x1 x2 x3 x4 x5 x6 x7).wus 0 1 d := by
  rw [← hU]
  pointwise [] <;> first | rfl | exact congrArg xs0 (congrArg (fun q => ix3 _ q _) (Fin.ext (by simp)))

/-- The scaled last factor of layer 0, expert 2, in the scratch buffer's rows. -/
theorem ld_u02 (xs0 : Vec Ideal S2x1024x1152 .bf16)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d)
    (j : Fin 256) (d : Fin 1152) :
    (View.ld xs0 (Rect.unit (s := S2x1024x1152) ![0, 0, 0] S1x1024x1152.size inb_S2x1024x1152_S1x1024x1152_0_0_0)) (ix3 0 (⟨512 + j.val, by omega⟩ : Fin 1024) d) = (wts x1 x2 x3 x4 x5 x6 x7).wu 0 2 j d * (wts x1 x2 x3 x4 x5 x6 x7).wus 0 2 d := by
  rw [← hU]
  pointwise [] <;> first | rfl | exact congrArg xs0 (congrArg (fun q => ix3 _ q _) (Fin.ext (by simp)))

/-- The scaled last factor of layer 0, expert 3, in the scratch buffer's rows. -/
theorem ld_u03 (xs0 : Vec Ideal S2x1024x1152 .bf16)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d)
    (j : Fin 256) (d : Fin 1152) :
    (View.ld xs0 (Rect.unit (s := S2x1024x1152) ![0, 0, 0] S1x1024x1152.size inb_S2x1024x1152_S1x1024x1152_0_0_0)) (ix3 0 (⟨768 + j.val, by omega⟩ : Fin 1024) d) = (wts x1 x2 x3 x4 x5 x6 x7).wu 0 3 j d * (wts x1 x2 x3 x4 x5 x6 x7).wus 0 3 d := by
  rw [← hU]
  pointwise [] <;> first | rfl | exact congrArg xs0 (congrArg (fun q => ix3 _ q _) (Fin.ext (by simp)))

/-- The codes of the first factor of layer 1, expert 0, read. -/
theorem ld_wv10 (k : Fin 1152) (j : Fin 256) : (View.ld x2 (Rect.unit (s := S2x1152x1024) ![1, 0, 0] S1x1152x256.size inb_S2x1152x1024_S1x1152x256_1_0_0)) (ix3 0 k j) = (wts x1 x2 x3 x4 x5 x6 x7).wv 1 0 k j := by
  pointwise [wts] <;> first | rfl | exact congrArg x2 (congrArg (ix3 _ _) (Fin.ext (by simp)))

/-- The scales of the first factor of layer 1, expert 0, read. -/
theorem ld_wvs10 (j : Fin 256) : (View.ld x3 (Rect.unit (s := S2x4x256) ![1, 0, 0] S1x1x256.size inb_S2x4x256_S1x1x256_1_0_0)) (ix3 0 0 j) = (wts x1 x2 x3 x4 x5 x6 x7).wvs 1 0 j := by
  pointwise [wts] <;> rfl

/-- The inner factor of layer 1, expert 0, read. -/
theorem ld_wc10 (i j : Fin 256) : (View.ld x4 (Rect.unit (s := S2x4x256x256) ![1, 0, 0, 0] S1x1x256x256.size inb_S2x4x256x256_S1x1x256x256_1_0_0_0)) (ix4 0 0 i j) = (wts x1 x2 x3 x4 x5 x6 x7).wc 1 0 i j := by
  pointwise [wts] <;> rfl

/-- The biases of layer 1, expert 0, read. -/
theorem ld_b10 (d : Fin 1152) : (View.ld x7 (Rect.unit (s := S2x4x1152) ![1, 0, 0] S1x1x1152.size inb_S2x4x1152_S1x1x1152_1_0_0)) (ix3 0 0 d) = (wts x1 x2 x3 x4 x5 x6 x7).b 1 0 d := by
  pointwise [wts] <;> rfl

/-- The second layer's gate weights of expert 0, read. -/
theorem ld_g0 (d : Fin 1152) : (View.ld x1 (Rect.unit (s := S2x4x1152) ![1, 0, 0] S1x1x1152.size inb_S2x4x1152_S1x1x1152_1_0_0)) (ix3 0 0 d) = (wts x1 x2 x3 x4 x5 x6 x7).wg 1 0 d := by
  pointwise [wts] <;> rfl

/-- The codes of the first factor of layer 1, expert 1, read. -/
theorem ld_wv11 (k : Fin 1152) (j : Fin 256) : (View.ld x2 (Rect.unit (s := S2x1152x1024) ![1, 0, 256] S1x1152x256.size inb_S2x1152x1024_S1x1152x256_1_0_256)) (ix3 0 k j) = (wts x1 x2 x3 x4 x5 x6 x7).wv 1 1 k j := by
  pointwise [wts] <;> first | rfl | exact congrArg x2 (congrArg (ix3 _ _) (Fin.ext (by simp)))

/-- The scales of the first factor of layer 1, expert 1, read. -/
theorem ld_wvs11 (j : Fin 256) : (View.ld x3 (Rect.unit (s := S2x4x256) ![1, 1, 0] S1x1x256.size inb_S2x4x256_S1x1x256_1_1_0)) (ix3 0 0 j) = (wts x1 x2 x3 x4 x5 x6 x7).wvs 1 1 j := by
  pointwise [wts] <;> rfl

/-- The inner factor of layer 1, expert 1, read. -/
theorem ld_wc11 (i j : Fin 256) : (View.ld x4 (Rect.unit (s := S2x4x256x256) ![1, 1, 0, 0] S1x1x256x256.size inb_S2x4x256x256_S1x1x256x256_1_1_0_0)) (ix4 0 0 i j) = (wts x1 x2 x3 x4 x5 x6 x7).wc 1 1 i j := by
  pointwise [wts] <;> rfl

/-- The biases of layer 1, expert 1, read. -/
theorem ld_b11 (d : Fin 1152) : (View.ld x7 (Rect.unit (s := S2x4x1152) ![1, 1, 0] S1x1x1152.size inb_S2x4x1152_S1x1x1152_1_1_0)) (ix3 0 0 d) = (wts x1 x2 x3 x4 x5 x6 x7).b 1 1 d := by
  pointwise [wts] <;> rfl

/-- The second layer's gate weights of expert 1, read. -/
theorem ld_g1 (d : Fin 1152) : (View.ld x1 (Rect.unit (s := S2x4x1152) ![1, 1, 0] S1x1x1152.size inb_S2x4x1152_S1x1x1152_1_1_0)) (ix3 0 0 d) = (wts x1 x2 x3 x4 x5 x6 x7).wg 1 1 d := by
  pointwise [wts] <;> rfl

/-- The codes of the first factor of layer 1, expert 2, read. -/
theorem ld_wv12 (k : Fin 1152) (j : Fin 256) : (View.ld x2 (Rect.unit (s := S2x1152x1024) ![1, 0, 512] S1x1152x256.size inb_S2x1152x1024_S1x1152x256_1_0_512)) (ix3 0 k j) = (wts x1 x2 x3 x4 x5 x6 x7).wv 1 2 k j := by
  pointwise [wts] <;> first | rfl | exact congrArg x2 (congrArg (ix3 _ _) (Fin.ext (by simp)))

/-- The scales of the first factor of layer 1, expert 2, read. -/
theorem ld_wvs12 (j : Fin 256) : (View.ld x3 (Rect.unit (s := S2x4x256) ![1, 2, 0] S1x1x256.size inb_S2x4x256_S1x1x256_1_2_0)) (ix3 0 0 j) = (wts x1 x2 x3 x4 x5 x6 x7).wvs 1 2 j := by
  pointwise [wts] <;> rfl

/-- The inner factor of layer 1, expert 2, read. -/
theorem ld_wc12 (i j : Fin 256) : (View.ld x4 (Rect.unit (s := S2x4x256x256) ![1, 2, 0, 0] S1x1x256x256.size inb_S2x4x256x256_S1x1x256x256_1_2_0_0)) (ix4 0 0 i j) = (wts x1 x2 x3 x4 x5 x6 x7).wc 1 2 i j := by
  pointwise [wts] <;> rfl

/-- The biases of layer 1, expert 2, read. -/
theorem ld_b12 (d : Fin 1152) : (View.ld x7 (Rect.unit (s := S2x4x1152) ![1, 2, 0] S1x1x1152.size inb_S2x4x1152_S1x1x1152_1_2_0)) (ix3 0 0 d) = (wts x1 x2 x3 x4 x5 x6 x7).b 1 2 d := by
  pointwise [wts] <;> rfl

/-- The second layer's gate weights of expert 2, read. -/
theorem ld_g2 (d : Fin 1152) : (View.ld x1 (Rect.unit (s := S2x4x1152) ![1, 2, 0] S1x1x1152.size inb_S2x4x1152_S1x1x1152_1_2_0)) (ix3 0 0 d) = (wts x1 x2 x3 x4 x5 x6 x7).wg 1 2 d := by
  pointwise [wts] <;> rfl

/-- The codes of the first factor of layer 1, expert 3, read. -/
theorem ld_wv13 (k : Fin 1152) (j : Fin 256) : (View.ld x2 (Rect.unit (s := S2x1152x1024) ![1, 0, 768] S1x1152x256.size inb_S2x1152x1024_S1x1152x256_1_0_768)) (ix3 0 k j) = (wts x1 x2 x3 x4 x5 x6 x7).wv 1 3 k j := by
  pointwise [wts] <;> first | rfl | exact congrArg x2 (congrArg (ix3 _ _) (Fin.ext (by simp)))

/-- The scales of the first factor of layer 1, expert 3, read. -/
theorem ld_wvs13 (j : Fin 256) : (View.ld x3 (Rect.unit (s := S2x4x256) ![1, 3, 0] S1x1x256.size inb_S2x4x256_S1x1x256_1_3_0)) (ix3 0 0 j) = (wts x1 x2 x3 x4 x5 x6 x7).wvs 1 3 j := by
  pointwise [wts] <;> rfl

/-- The inner factor of layer 1, expert 3, read. -/
theorem ld_wc13 (i j : Fin 256) : (View.ld x4 (Rect.unit (s := S2x4x256x256) ![1, 3, 0, 0] S1x1x256x256.size inb_S2x4x256x256_S1x1x256x256_1_3_0_0)) (ix4 0 0 i j) = (wts x1 x2 x3 x4 x5 x6 x7).wc 1 3 i j := by
  pointwise [wts] <;> rfl

/-- The biases of layer 1, expert 3, read. -/
theorem ld_b13 (d : Fin 1152) : (View.ld x7 (Rect.unit (s := S2x4x1152) ![1, 3, 0] S1x1x1152.size inb_S2x4x1152_S1x1x1152_1_3_0)) (ix3 0 0 d) = (wts x1 x2 x3 x4 x5 x6 x7).b 1 3 d := by
  pointwise [wts] <;> rfl

/-- The second layer's gate weights of expert 3, read. -/
theorem ld_g3 (d : Fin 1152) : (View.ld x1 (Rect.unit (s := S2x4x1152) ![1, 3, 0] S1x1x1152.size inb_S2x4x1152_S1x1x1152_1_3_0)) (ix3 0 0 d) = (wts x1 x2 x3 x4 x5 x6 x7).wg 1 3 d := by
  pointwise [wts] <;> rfl

/-- The scaled last factor of layer 1, expert 0, in the scratch buffer's rows. -/
theorem ld_u10 (xs0 : Vec Ideal S2x1024x1152 .bf16)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d)
    (j : Fin 256) (d : Fin 1152) :
    (View.ld xs0 (Rect.unit (s := S2x1024x1152) ![1, 0, 0] S1x1024x1152.size inb_S2x1024x1152_S1x1024x1152_1_0_0)) (ix3 0 (⟨j.val, by omega⟩ : Fin 1024) d) = (wts x1 x2 x3 x4 x5 x6 x7).wu 1 0 j d * (wts x1 x2 x3 x4 x5 x6 x7).wus 1 0 d := by
  rw [← hU]
  pointwise [] <;> first | rfl | exact congrArg xs0 (congrArg (fun q => ix3 _ q _) (Fin.ext (by simp)))

/-- The scaled last factor of layer 1, expert 1, in the scratch buffer's rows. -/
theorem ld_u11 (xs0 : Vec Ideal S2x1024x1152 .bf16)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d)
    (j : Fin 256) (d : Fin 1152) :
    (View.ld xs0 (Rect.unit (s := S2x1024x1152) ![1, 0, 0] S1x1024x1152.size inb_S2x1024x1152_S1x1024x1152_1_0_0)) (ix3 0 (⟨256 + j.val, by omega⟩ : Fin 1024) d) = (wts x1 x2 x3 x4 x5 x6 x7).wu 1 1 j d * (wts x1 x2 x3 x4 x5 x6 x7).wus 1 1 d := by
  rw [← hU]
  pointwise [] <;> first | rfl | exact congrArg xs0 (congrArg (fun q => ix3 _ q _) (Fin.ext (by simp)))

/-- The scaled last factor of layer 1, expert 2, in the scratch buffer's rows. -/
theorem ld_u12 (xs0 : Vec Ideal S2x1024x1152 .bf16)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d)
    (j : Fin 256) (d : Fin 1152) :
    (View.ld xs0 (Rect.unit (s := S2x1024x1152) ![1, 0, 0] S1x1024x1152.size inb_S2x1024x1152_S1x1024x1152_1_0_0)) (ix3 0 (⟨512 + j.val, by omega⟩ : Fin 1024) d) = (wts x1 x2 x3 x4 x5 x6 x7).wu 1 2 j d * (wts x1 x2 x3 x4 x5 x6 x7).wus 1 2 d := by
  rw [← hU]
  pointwise [] <;> first | rfl | exact congrArg xs0 (congrArg (fun q => ix3 _ q _) (Fin.ext (by simp)))

/-- The scaled last factor of layer 1, expert 3, in the scratch buffer's rows. -/
theorem ld_u13 (xs0 : Vec Ideal S2x1024x1152 .bf16)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d)
    (j : Fin 256) (d : Fin 1152) :
    (View.ld xs0 (Rect.unit (s := S2x1024x1152) ![1, 0, 0] S1x1024x1152.size inb_S2x1024x1152_S1x1024x1152_1_0_0)) (ix3 0 (⟨768 + j.val, by omega⟩ : Fin 1024) d) = (wts x1 x2 x3 x4 x5 x6 x7).wu 1 3 j d * (wts x1 x2 x3 x4 x5 x6 x7).wus 1 3 d := by
  rw [← hU]
  pointwise [] <;> first | rfl | exact congrArg xs0 (congrArg (fun q => ix3 _ q _) (Fin.ext (by simp)))

end

end Cert.Proof
end
-- ==== Proof.Lay0.lean ====
module
public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The first layer's scale and codes, the gate logits and the softmax, at an index. -/

/-- The scale, from the exponent word. -/
theorem pay26_at (a : FVec Ideal S512x1 .f32) (b c : IVec S512x1 32) (d : IVec S512x1 1) (r : Fin 512) (y : EReal)
    (h : k0_pay24 a b c d (ix2 r 0) = word (reached y)) : k0_pay26 a b c d (ix2 r 0) = scaleOf y := by
  rw [← kernel_scale y, ← h]
  pointwise [k0_pay26, k0_pay25]

/-- The codes, from the exponent word. -/
theorem pay27_at (v6 : FVec Ideal S512x1152 .bf16) (a : FVec Ideal S512x1 .f32) (b c : IVec S512x1 32) (d : IVec S512x1 1) (r : Fin 512) (y : EReal)
    (h : k0_pay24 a b c d (ix2 r 0) = word (reached y)) (k : Fin 1152) :
    k0_pay27 v6 a b c d (ix2 r k)
      = min (Ideal.ofBits .f32 1138753536#32) (max (Ideal.ofBits .f32 3286237184#32) (v6 (ix2 r k) * invOf y)) := by
  rw [← kernel_inv y, ← h]
  pointwise [k0_pay27, k0_pay25]

/-- The second layer's scale, from the exponent word. -/
theorem pay56_at (a : FVec Ideal S512x1 .f32) (b : IVec S512x1 32) (c : BitVec 32) (r : Fin 512) (y : EReal)
    (h : k0_pay54 a b c (ix2 r 0) = word (reached y)) : k0_pay56 a b c (ix2 r 0) = scaleOf y := by
  rw [← kernel_scale y, ← h]
  pointwise [k0_pay56, k0_pay55]

/-- The second layer's codes, from the exponent word. -/
theorem pay57_at (v : FVec Ideal S512x1152 .f32) (a : FVec Ideal S512x1 .f32) (b : IVec S512x1 32) (c : BitVec 32) (r : Fin 512) (y : EReal)
    (h : k0_pay54 a b c (ix2 r 0) = word (reached y)) (k : Fin 1152) :
    k0_pay57 v a b c (ix2 r k)
      = min (Ideal.ofBits .f32 1138753536#32) (max (Ideal.ofBits .f32 3286237184#32) (v (ix2 r k) * invOf y)) := by
  rw [← kernel_inv y, ← h]
  pointwise [k0_pay57, k0_pay55]

/-- The input row, read. -/
theorem pay19_at (x : Vec Ideal S512x1152 .bf16) (r : Fin 512) (k : Fin 1152) : k0_pay19 x (ix2 r k) = x (ix2 r k) := by
  pointwise [k0_pay19]

/-- The first layer's gate logits, in lanes zero to three. -/
theorem pay28_at (v6 : FVec Ideal S512x1152 .bf16) (g : Vec Ideal S128x1152 .bf16) (w : Fin 4 → Fin 1152 → EReal)
    (h0 : ∀ (e : Fin 4) (k : Fin 1152), g (ix2 (⟨e.val, by omega⟩ : Fin 128) k) = w e k)
    (h1 : ∀ (e : Fin 4) (q : Fin 128) (k : Fin 1152), q.val = 124 + e.val ∨ q.val = 120 + e.val ∨ q.val = 116 + e.val → g (ix2 q k) = 0)
    (r : Fin 512) (e : Fin 4) :
    k0_pay28 v6 g (ix2 r (⟨e.val, by omega⟩ : Fin 128)) = ∑ k, v6 (ix2 r k) * w e k := by
  pointwise [k0_pay28]
  have z1 : ∀ (q : Fin 128), q.val = 124 + e.val ∨ q.val = 120 + e.val ∨ q.val = 116 + e.val →
      (∑ x, v6 (ix2 r x) * g (ix2 q x) : EReal) = 0 := fun q hq =>
    Finset.sum_eq_zero fun x _ => by rw [h1 e q x hq, mul_zero]
  have key : ∀ q1 q2 q3 : Fin 128, q1.val = 124 + e.val → q2.val = 120 + e.val → q3.val = 116 + e.val →
      (∑ x, v6 (ix2 r x) * g (ix2 (⟨e.val, by omega⟩ : Fin 128) x) : EReal) + ∑ x, v6 (ix2 r x) * g (ix2 q1 x)
        + (∑ x, v6 (ix2 r x) * g (ix2 q2 x) + ∑ x, v6 (ix2 r x) * g (ix2 q3 x)) = ∑ k, v6 (ix2 r k) * w e k := by
    intro q1 q2 q3 a1 a2 a3
    rw [z1 q1 (Or.inl a1), z1 q2 (Or.inr (Or.inl a2)), z1 q3 (Or.inr (Or.inr a3)), add_zero, add_zero, add_zero]
    exact Finset.sum_congr rfl fun k _ => by rw [h0 e k]
  have he := e.isLt
  refine key _ _ _ ?_ ?_ ?_
  · show (e.val + 128 - 4) % 128 = _
    omega
  · show (e.val + 128 - 8) % 128 = _
    omega
  · show ((e.val + 128 - 8) % 128 + 128 - 4) % 128 = _
    omega

/-- The softmax of the first layer. -/
theorem gate0_at (v : FVec Ideal S512x128 .f32) (r : Fin 512) (g : Fin 4 → EReal)
    (h : ∀ e : Fin 4, v (ix2 r (⟨e.val, by omega⟩ : Fin 128)) = g e) : k0_pay40 v (ix2 r 0) = gate g 0 := by
  have h0 : v (ix2 r 0) = g 0 := h 0
  have h1 : v (ix2 r 1) = g 1 := h 1
  have h2 : v (ix2 r 2) = g 2 := h 2
  have h3 : v (ix2 r 3) = g 3 := h 3
  pointwise [k0_pay40, k0_pay39, k0_pay38, k0_pay37, k0_pay36, k0_pay35, k0_pay34, k0_pay32, k0_pay31, k0_pay30, k0_pay29]
  rw [h0, h1, h2, h3]
  rfl

/-- The softmax of the first layer, its second entry. -/
theorem gate1_at (v : FVec Ideal S512x128 .f32) (r : Fin 512) (g : Fin 4 → EReal)
    (h : ∀ e : Fin 4, v (ix2 r (⟨e.val, by omega⟩ : Fin 128)) = g e) : k0_pay41 v (ix2 r 0) = gate g 1 := by
  have h0 : v (ix2 r 0) = g 0 := h 0
  have h1 : v (ix2 r 1) = g 1 := h 1
  have h2 : v (ix2 r 2) = g 2 := h 2
  have h3 : v (ix2 r 3) = g 3 := h 3
  pointwise [k0_pay41, k0_pay39, k0_pay38, k0_pay37, k0_pay36, k0_pay35, k0_pay34, k0_pay32, k0_pay31, k0_pay30, k0_pay29]
  rw [h0, h1, h2, h3]
  rfl

/-- The softmax of the first layer, its third entry. -/
theorem gate2_at (v : FVec Ideal S512x128 .f32) (r : Fin 512) (g : Fin 4 → EReal)
    (h : ∀ e : Fin 4, v (ix2 r (⟨e.val, by omega⟩ : Fin 128)) = g e) : k0_pay42 v (ix2 r 0) = gate g 2 := by
  have h0 : v (ix2 r 0) = g 0 := h 0
  have h1 : v (ix2 r 1) = g 1 := h 1
  have h2 : v (ix2 r 2) = g 2 := h 2
  have h3 : v (ix2 r 3) = g 3 := h 3
  pointwise [k0_pay42, k0_pay39, k0_pay38, k0_pay37, k0_pay36, k0_pay35, k0_pay34, k0_pay32, k0_pay31, k0_pay30, k0_pay29]
  rw [h0, h1, h2, h3]
  rfl

/-- The softmax of the first layer, its fourth entry. -/
theorem gate3_at (v : FVec Ideal S512x128 .f32) (r : Fin 512) (g : Fin 4 → EReal)
    (h : ∀ e : Fin 4, v (ix2 r (⟨e.val, by omega⟩ : Fin 128)) = g e) : k0_pay43 v (ix2 r 0) = gate g 3 := by
  have h0 : v (ix2 r 0) = g 0 := h 0
  have h1 : v (ix2 r 1) = g 1 := h 1
  have h2 : v (ix2 r 2) = g 2 := h 2
  have h3 : v (ix2 r 3) = g 3 := h 3
  pointwise [k0_pay43, k0_pay39, k0_pay38, k0_pay37, k0_pay36, k0_pay35, k0_pay34, k0_pay32, k0_pay31, k0_pay30, k0_pay29]
  rw [h0, h1, h2, h3]
  rfl

end Cert.Proof
end
-- ==== Proof.Hid.lean ====
module
public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! One expert's gated hidden rows, at an index. -/

/-- The hidden row of the first layer's first expert. -/
theorem pay45_at (s : FVec Ideal S512x1 .f32) (c : FVec Ideal S512x1152 .fp8e4m3) (v : FVec Ideal S512x128 .f32) (wv : Vec Ideal S1x1152x256 .fp8e4m3) (wvs : Vec Ideal S1x1x256 .f32) (wc : Vec Ideal S1x1x256x256 .bf16) (r : Fin 512) (j : Fin 256) :
    k0_pay45 s c v wv wvs wc (ix2 r j) = hid (k0_pay40 v (ix2 r 0)) (s (ix2 r 0)) (fun k => c (ix2 r k)) (fun k i => wv (ix3 0 k i)) (fun i => wvs (ix3 0 0 i)) (fun i j => wc (ix4 0 0 i j)) j := by
  pointwise [k0_pay45]
  rfl

/-- The hidden row of the first layer's second expert. -/
theorem pay46_at (s : FVec Ideal S512x1 .f32) (c : FVec Ideal S512x1152 .fp8e4m3) (g : FVec Ideal S512x1 .f32) (wv : Vec Ideal S1x1152x256 .fp8e4m3) (wvs : Vec Ideal S1x1x256 .f32) (wc : Vec Ideal S1x1x256x256 .bf16) (r : Fin 512) (j : Fin 256) :
    k0_pay46 s c g wv wvs wc (ix2 r j) = hid (g (ix2 r 0)) (s (ix2 r 0)) (fun k => c (ix2 r k)) (fun k i => wv (ix3 0 k i)) (fun i => wvs (ix3 0 0 i)) (fun i j => wc (ix4 0 0 i j)) j := by
  pointwise [k0_pay46]
  rfl

/-- The hidden row of the first layer's third expert. -/
theorem pay47_at (s : FVec Ideal S512x1 .f32) (c : FVec Ideal S512x1152 .fp8e4m3) (g : FVec Ideal S512x1 .f32) (wv : Vec Ideal S1x1152x256 .fp8e4m3) (wvs : Vec Ideal S1x1x256 .f32) (wc : Vec Ideal S1x1x256x256 .bf16) (r : Fin 512) (j : Fin 256) :
    k0_pay47 s c g wv wvs wc (ix2 r j) = hid (g (ix2 r 0)) (s (ix2 r 0)) (fun k => c (ix2 r k)) (fun k i => wv (ix3 0 k i)) (fun i => wvs (ix3 0 0 i)) (fun i j => wc (ix4 0 0 i j)) j := by
  pointwise [k0_pay47]
  rfl

/-- The hidden row of the second layer's third expert. -/
theorem pay79_at (s : FVec Ideal S512x1 .f32) (c : FVec Ideal S512x1152 .fp8e4m3) (g : FVec Ideal S512x1 .f32) (wv : Vec Ideal S1x1152x256 .fp8e4m3) (wvs : Vec Ideal S1x1x256 .f32) (wc : Vec Ideal S1x1x256x256 .bf16) (r : Fin 512) (j : Fin 256) :
    k0_pay79 s c g wv wvs wc (ix2 r j) = hid (g (ix2 r 0)) (s (ix2 r 0)) (fun k => c (ix2 r k)) (fun k i => wv (ix3 0 k i)) (fun i => wvs (ix3 0 0 i)) (fun i j => wc (ix4 0 0 i j)) j := by
  pointwise [k0_pay79]
  rfl

/-- The hidden row of the second layer's first expert. -/
theorem pay75_at (s : FVec Ideal S512x1 .f32) (c : FVec Ideal S512x1152 .fp8e4m3) (a1 a2 a3 a4 : FVec Ideal S512x1 .f32) (wv : Vec Ideal S1x1152x256 .fp8e4m3) (wvs : Vec Ideal S1x1x256 .f32) (wc : Vec Ideal S1x1x256x256 .bf16) (r : Fin 512) (j : Fin 256) :
    k0_pay75 s c a1 a2 a3 a4 wv wvs wc (ix2 r j) = hid (k0_pay71 a1 a2 a3 a4 (ix2 r 0)) (s (ix2 r 0)) (fun k => c (ix2 r k)) (fun k i => wv (ix3 0 k i)) (fun i => wvs (ix3 0 0 i)) (fun i j => wc (ix4 0 0 i j)) j := by
  pointwise [k0_pay75]
  rfl

/-- The hidden row of the second layer's second expert. -/
theorem pay78_at (s : FVec Ideal S512x1 .f32) (c : FVec Ideal S512x1152 .fp8e4m3) (g : FVec Ideal S512x1 .f32) (wv : Vec Ideal S1x1152x256 .fp8e4m3) (wvs : Vec Ideal S1x1x256 .f32) (wc : Vec Ideal S1x1x256x256 .bf16) (r : Fin 512) (j : Fin 256) :
    k0_pay78 g (k0_pay76 s c wv wvs) (k0_pay77 wc) (ix2 r j) = hid (g (ix2 r 0)) (s (ix2 r 0)) (fun k => c (ix2 r k)) (fun k i => wv (ix3 0 k i)) (fun i => wvs (ix3 0 0 i)) (fun i j => wc (ix4 0 0 i j)) j := by
  pointwise [k0_pay78, k0_pay77, k0_pay76]
  rfl

end Cert.Proof
end
-- ==== Proof.Acc.lean ====
module
public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The sum over the experts' hidden rows, split by expert. -/

/-- A sum over the four experts' lanes is the four experts' sums. -/
theorem sum_split (f : Fin 1024 → EReal) :
    (∑ x, f x) = (∑ j : Fin 256, f ⟨j.val, by omega⟩) + (∑ j : Fin 256, f ⟨256 + j.val, by omega⟩) + (∑ j : Fin 256, f ⟨512 + j.val, by omega⟩)
      + (∑ j : Fin 256, f ⟨768 + j.val, by omega⟩) := by
  have h1 := Fin.sum_univ_add (a := 768) (b := 256) f
  have h2 := Fin.sum_univ_add (a := 512) (b := 256) fun x : Fin 768 => f (Fin.castAdd 256 x)
  have h3 := Fin.sum_univ_add (a := 256) (b := 256) fun x : Fin 512 => f (Fin.castAdd 256 (Fin.castAdd 256 x))
  exact h1.trans (congrArg (· + _) (h2.trans (congrArg (· + _) h3)))

/-- The same, of a product whose first factor is chosen by the lane. -/
theorem sum_ladder (a b c d : Fin 256 → EReal) (w : Fin 1024 → EReal) :
    (∑ x : Fin 1024, (if h : x.val < 256 then a ⟨x.val, h⟩ else if h : x.val - 256 < 256 then b ⟨x.val - 256, h⟩
      else if h : x.val - 256 - 256 < 256 then c ⟨x.val - 256 - 256, h⟩ else d ⟨x.val - 256 - 256 - 256, by omega⟩) * w x)
      = (∑ j, a j * w ⟨j.val, by omega⟩) + (∑ j, b j * w ⟨256 + j.val, by omega⟩) + (∑ j, c j * w ⟨512 + j.val, by omega⟩)
      + (∑ j, d j * w ⟨768 + j.val, by omega⟩) := by
  rw [sum_split]
  refine congrArg₂ (· + ·) (congrArg₂ (· + ·) (congrArg₂ (· + ·) ?_ ?_) ?_) ?_ <;> refine Finset.sum_congr rfl fun j _ => congrArg (· * _) ?_ <;>
    have hj := j.isLt <;> dsimp only
  · rw [dif_pos hj]
  · rw [dif_neg (by omega), dif_pos (by omega)]
    exact congrArg b (Fin.ext (by show 256 + j.val - 256 = j.val; omega))
  · rw [dif_neg (by omega), dif_neg (by omega), dif_pos (by omega)]
    exact congrArg c (Fin.ext (by show 512 + j.val - 256 - 256 = j.val; omega))
  · rw [dif_neg (by omega), dif_neg (by omega), dif_neg (by omega)]
    exact congrArg d (Fin.ext (by show 768 + j.val - 256 - 256 - 256 = j.val; omega))

/-- The first layer's sum over the experts. -/
theorem pay48_at (s : FVec Ideal S512x1 .f32) (c : FVec Ideal S512x1152 .fp8e4m3) (g : FVec Ideal S512x1 .f32) (h0 h1 h2 : FVec Ideal S512x256 .bf16) (wv : Vec Ideal S1x1152x256 .fp8e4m3) (wvs : Vec Ideal S1x1x256 .f32) (wc : Vec Ideal S1x1x256x256 .bf16) (wu : Vec Ideal S1x1024x1152 .bf16)
    (r : Fin 512) (d : Fin 1152) :
    k0_pay48 s c g h0 h1 h2 wv wvs wc wu (ix2 r d)
      = (∑ j : Fin 256, h0 (ix2 r j) * wu (ix3 0 (⟨j.val, by omega⟩ : Fin 1024) d)) + (∑ j : Fin 256, h1 (ix2 r j) * wu (ix3 0 (⟨256 + j.val, by omega⟩ : Fin 1024) d))
      + (∑ j : Fin 256, h2 (ix2 r j) * wu (ix3 0 (⟨512 + j.val, by omega⟩ : Fin 1024) d))
      + (∑ j : Fin 256, hid (g (ix2 r 0)) (s (ix2 r 0)) (fun k => c (ix2 r k)) (fun k i => wv (ix3 0 k i)) (fun i => wvs (ix3 0 0 i)) (fun i j => wc (ix4 0 0 i j)) j * wu (ix3 0 (⟨768 + j.val, by omega⟩ : Fin 1024) d)) := by
  pointwise [k0_pay48]
  exact sum_ladder (fun j => h0 (ix2 r j)) (fun j => h1 (ix2 r j)) (fun j => h2 (ix2 r j))
    (fun j => hid (g (ix2 r 0)) (s (ix2 r 0)) (fun k => c (ix2 r k)) (fun k i => wv (ix3 0 k i)) (fun i => wvs (ix3 0 0 i)) (fun i j => wc (ix4 0 0 i j)) j) fun x => wu (ix3 0 x d)

/-- The second layer's row. -/
theorem pay82_at (s : FVec Ideal S512x1 .f32) (c : FVec Ideal S512x1152 .fp8e4m3) (v6 : FVec Ideal S512x1152 .bf16) (v213 : FVec Ideal S512x1152 .f32) (g0 g1 g2 g3 : FVec Ideal S512x1 .f32)
    (h0 h1 h2 : FVec Ideal S512x256 .bf16) (wv : Vec Ideal S1x1152x256 .fp8e4m3) (wvs : Vec Ideal S1x1x256 .f32) (wc : Vec Ideal S1x1x256x256 .bf16) (wu : Vec Ideal S1x1024x1152 .bf16) (b0 b1 b2 b3 : Vec Ideal S1x1x1152 .f32)
    (r : Fin 512) (d : Fin 1152) :
    k0_pay82 v6 v213 g0 g1 g2 g3 h0 h1 h2 (k0_pay80 s c wv wvs) (k0_pay81 wc) wu b0 b1 b2 b3 (ix2 r d)
      = v6 (ix2 r d) * ((∑ j : Fin 256, h0 (ix2 r j) * wu (ix3 0 (⟨j.val, by omega⟩ : Fin 1024) d)) + (∑ j : Fin 256, h1 (ix2 r j) * wu (ix3 0 (⟨256 + j.val, by omega⟩ : Fin 1024) d))
      + (∑ j : Fin 256, h2 (ix2 r j) * wu (ix3 0 (⟨512 + j.val, by omega⟩ : Fin 1024) d))
      + (∑ j : Fin 256, hid (g3 (ix2 r 0)) (s (ix2 r 0)) (fun k => c (ix2 r k)) (fun k i => wv (ix3 0 k i)) (fun i => wvs (ix3 0 0 i)) (fun i j => wc (ix4 0 0 i j)) j * wu (ix3 0 (⟨768 + j.val, by omega⟩ : Fin 1024) d))
      + (g0 (ix2 r 0) * b0 (ix3 0 0 d) + g1 (ix2 r 0) * b1 (ix3 0 0 d) + g2 (ix2 r 0) * b2 (ix3 0 0 d) + g3 (ix2 r 0) * b3 (ix3 0 0 d)))
      + v213 (ix2 r d) := by
  rw [← sum_ladder (fun j => h0 (ix2 r j)) (fun j => h1 (ix2 r j)) (fun j => h2 (ix2 r j))
    (fun j => hid (g3 (ix2 r 0)) (s (ix2 r 0)) (fun k => c (ix2 r k)) (fun k i => wv (ix3 0 k i)) (fun i => wvs (ix3 0 0 i)) (fun i j => wc (ix4 0 0 i j)) j) fun x => wu (ix3 0 x d)]
  pointwise [k0_pay82, k0_pay81, k0_pay80]
  rfl

end Cert.Proof
end
-- ==== Proof.Mix.lean ====
module
public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The biases of the first layer and the row after it. -/

/-- The row after the first layer, from the sum over the experts and the mixed biases. -/
theorem pay51_at (v107 v108 v109 v110 : FVec Ideal S512x1 .f32) (v6 : FVec Ideal S512x1152 .bf16) (v187 : FVec Ideal S512x1152 .f32)
    (b0 b1 b2 b3 : Vec Ideal S1x1x1152 .f32) (r : Fin 512) (d : Fin 1152) :
    k0_pay51 v110 (k0_pay44 v6) v187 (k0_pay49 v107 v108 b0 b1) (k0_pay50 v109 b2) b3 (ix2 r d)
      = v6 (ix2 r d) * (v187 (ix2 r d) + (v107 (ix2 r 0) * b0 (ix3 0 0 d) + v108 (ix2 r 0) * b1 (ix3 0 0 d) + v109 (ix2 r 0) * b2 (ix3 0 0 d)
        + v110 (ix2 r 0) * b3 (ix3 0 0 d))) + v6 (ix2 r d) := by
  pointwise [k0_pay51, k0_pay50, k0_pay49, k0_pay44]

end Cert.Proof
end
-- ==== Proof.Lay1.lean ====
module
public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The second layer's gate logits and softmax. -/

/-- The second layer's first gate logit. -/
theorem pay58_at (v : FVec Ideal S512x1152 .f32) (w : Vec Ideal S1x1x1152 .f32) (r : Fin 512) :
    k0_pay58 v w (ix2 r 0) = ∑ k, v (ix2 r k) * w (ix3 0 0 k) := by
  pointwise [k0_pay58]

/-- The second layer's second gate logit. -/
theorem pay60_at (v : FVec Ideal S512x1152 .f32) (w : Vec Ideal S1x1x1152 .f32) (r : Fin 512) :
    k0_pay60 v (k0_pay59 w) (ix2 r 0) = ∑ k, v (ix2 r k) * w (ix3 0 0 k) := by
  pointwise [k0_pay60, k0_pay59]

/-- The second layer's third gate logit. -/
theorem pay61_at (v : FVec Ideal S512x1152 .f32) (w : Vec Ideal S1x1x1152 .f32) (r : Fin 512) :
    k0_pay61 v w (ix2 r 0) = ∑ k, v (ix2 r k) * w (ix3 0 0 k) := by
  pointwise [k0_pay61]

/-- The second layer's fourth gate logit. -/
theorem pay62_at (v : FVec Ideal S512x1152 .f32) (w : Vec Ideal S1x1x1152 .f32) (r : Fin 512) :
    k0_pay62 v w (ix2 r 0) = ∑ k, v (ix2 r k) * w (ix3 0 0 k) := by
  pointwise [k0_pay62]

/-- The gate of expert 0. -/
theorem gate1_0 (v : FVec Ideal S512x1152 .f32) (w0 w1 w2 w3 : Vec Ideal S1x1x1152 .f32) (r : Fin 512) (g : Fin 4 → EReal)
    (h0 : k0_pay58 v w0 (ix2 r 0) = g 0) (h1 : k0_pay60 v (k0_pay59 w1) (ix2 r 0) = g 1) (h2 : k0_pay61 v w2 (ix2 r 0) = g 2)
    (h3 : k0_pay62 v w3 (ix2 r 0) = g 3) :
    k0_pay71 (k0_pay65 v (k0_pay58 v w0) (k0_pay59 w1) w2 w3) (k0_pay67 v (k0_pay58 v w0) (k0_pay59 w1) w2 w3) (k0_pay68 v (k0_pay58 v w0) (k0_pay59 w1) w2 w3)
      (k0_pay69 v (k0_pay58 v w0) (k0_pay59 w1) w2 w3) (ix2 r 0) = gate g 0 := by
  pointwise [k0_pay71, k0_pay70, k0_pay69, k0_pay68, k0_pay67, k0_pay66, k0_pay65, k0_pay64]
  rw [h0, h1, h2, h3]
  rfl

/-- The gate of expert 1. -/
theorem gate1_1 (v : FVec Ideal S512x1152 .f32) (w0 w1 w2 w3 : Vec Ideal S1x1x1152 .f32) (r : Fin 512) (g : Fin 4 → EReal)
    (h0 : k0_pay58 v w0 (ix2 r 0) = g 0) (h1 : k0_pay60 v (k0_pay59 w1) (ix2 r 0) = g 1) (h2 : k0_pay61 v w2 (ix2 r 0) = g 2)
    (h3 : k0_pay62 v w3 (ix2 r 0) = g 3) :
    k0_pay72 (k0_pay66 v (k0_pay58 v w0) (k0_pay59 w1) w2 w3) (k0_pay67 v (k0_pay58 v w0) (k0_pay59 w1) w2 w3) (k0_pay68 v (k0_pay58 v w0) (k0_pay59 w1) w2 w3)
      (k0_pay69 v (k0_pay58 v w0) (k0_pay59 w1) w2 w3) (ix2 r 0) = gate g 1 := by
  pointwise [k0_pay72, k0_pay70, k0_pay69, k0_pay68, k0_pay67, k0_pay66, k0_pay65, k0_pay64]
  rw [h0, h1, h2, h3]
  rfl

/-- The gate of expert 2. -/
theorem gate1_2 (v : FVec Ideal S512x1152 .f32) (w0 w1 w2 w3 : Vec Ideal S1x1x1152 .f32) (r : Fin 512) (g : Fin 4 → EReal)
    (h0 : k0_pay58 v w0 (ix2 r 0) = g 0) (h1 : k0_pay60 v (k0_pay59 w1) (ix2 r 0) = g 1) (h2 : k0_pay61 v w2 (ix2 r 0) = g 2)
    (h3 : k0_pay62 v w3 (ix2 r 0) = g 3) :
    k0_pay73  (k0_pay67 v (k0_pay58 v w0) (k0_pay59 w1) w2 w3) (k0_pay68 v (k0_pay58 v w0) (k0_pay59 w1) w2 w3)
      (k0_pay69 v (k0_pay58 v w0) (k0_pay59 w1) w2 w3) (ix2 r 0) = gate g 2 := by
  pointwise [k0_pay73, k0_pay70, k0_pay69, k0_pay68, k0_pay67, k0_pay66, k0_pay65, k0_pay64]
  rw [h0, h1, h2, h3]
  rfl

/-- The gate of expert 3. -/
theorem gate1_3 (v : FVec Ideal S512x1152 .f32) (w0 w1 w2 w3 : Vec Ideal S1x1x1152 .f32) (r : Fin 512) (g : Fin 4 → EReal)
    (h0 : k0_pay58 v w0 (ix2 r 0) = g 0) (h1 : k0_pay60 v (k0_pay59 w1) (ix2 r 0) = g 1) (h2 : k0_pay61 v w2 (ix2 r 0) = g 2)
    (h3 : k0_pay62 v w3 (ix2 r 0) = g 3) :
    k0_pay74  (k0_pay67 v (k0_pay58 v w0) (k0_pay59 w1) w2 w3) (k0_pay68 v (k0_pay58 v w0) (k0_pay59 w1) w2 w3)
      (k0_pay69 v (k0_pay58 v w0) (k0_pay59 w1) w2 w3) (ix2 r 0) = gate g 3 := by
  pointwise [k0_pay74, k0_pay70, k0_pay69, k0_pay68, k0_pay67, k0_pay66, k0_pay65, k0_pay64]
  rw [h0, h1, h2, h3]
  rfl

end Cert.Proof
end
-- ==== Proof.Row.lean ====
module
public import proofs.«01_k».proof.Proof.Gen.KernelIdeal.Frame
public import proofs.«01_k».proof.Proof.Spec
public import proofs.«01_k».proof.Proof.Lay0
public import proofs.«01_k».proof.Proof.Hid
public import proofs.«01_k».proof.Proof.Acc
public import proofs.«01_k».proof.Proof.Mix
public import proofs.«01_k».proof.Proof.Lay1
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! One row through each layer, from what the loaded vectors hold. -/

/-- The first layer. -/
theorem row0 (W : Wts) (X : Fin 1152 → EReal) (r : Fin 512) (v6 : FVec Ideal S512x1152 .bf16) (s : FVec Ideal S512x1 .f32) (c : FVec Ideal S512x1152 .fp8e4m3)
    (R : FVec Ideal S512x128 .f32) (wv0 : Vec Ideal S1x1152x256 .fp8e4m3) (wvs0 : Vec Ideal S1x1x256 .f32) (wc0 : Vec Ideal S1x1x256x256 .bf16) (b0 : Vec Ideal S1x1x1152 .f32)
    (wv1 : Vec Ideal S1x1152x256 .fp8e4m3) (wvs1 : Vec Ideal S1x1x256 .f32) (wc1 : Vec Ideal S1x1x256x256 .bf16) (b1 : Vec Ideal S1x1x1152 .f32)
    (wv2 : Vec Ideal S1x1152x256 .fp8e4m3) (wvs2 : Vec Ideal S1x1x256 .f32) (wc2 : Vec Ideal S1x1x256x256 .bf16) (b2 : Vec Ideal S1x1x1152 .f32)
    (wv3 : Vec Ideal S1x1152x256 .fp8e4m3) (wvs3 : Vec Ideal S1x1x256 .f32) (wc3 : Vec Ideal S1x1x256x256 .bf16) (b3 : Vec Ideal S1x1x1152 .f32)
    (wu : Vec Ideal S1x1024x1152 .bf16)
    (hv : ∀ k, v6 (ix2 r k) = X k) (hs : s (ix2 r 0) = sOf X) (hc : ∀ k, c (ix2 r k) = codeOf X k)
    (hR : ∀ e : Fin 4, R (ix2 r (⟨e.val, by omega⟩ : Fin 128)) = lg W 0 X e)
    (hwv0 : ∀ k j, wv0 (ix3 0 k j) = W.wv 0 0 k j) (hwvs0 : ∀ j, wvs0 (ix3 0 0 j) = W.wvs 0 0 j)
    (hwc0 : ∀ i j, wc0 (ix4 0 0 i j) = W.wc 0 0 i j) (hb0 : ∀ d, b0 (ix3 0 0 d) = W.b 0 0 d)
    (hwv1 : ∀ k j, wv1 (ix3 0 k j) = W.wv 0 1 k j) (hwvs1 : ∀ j, wvs1 (ix3 0 0 j) = W.wvs 0 1 j)
    (hwc1 : ∀ i j, wc1 (ix4 0 0 i j) = W.wc 0 1 i j) (hb1 : ∀ d, b1 (ix3 0 0 d) = W.b 0 1 d)
    (hwv2 : ∀ k j, wv2 (ix3 0 k j) = W.wv 0 2 k j) (hwvs2 : ∀ j, wvs2 (ix3 0 0 j) = W.wvs 0 2 j)
    (hwc2 : ∀ i j, wc2 (ix4 0 0 i j) = W.wc 0 2 i j) (hb2 : ∀ d, b2 (ix3 0 0 d) = W.b 0 2 d)
    (hwv3 : ∀ k j, wv3 (ix3 0 k j) = W.wv 0 3 k j) (hwvs3 : ∀ j, wvs3 (ix3 0 0 j) = W.wvs 0 3 j)
    (hwc3 : ∀ i j, wc3 (ix4 0 0 i j) = W.wc 0 3 i j) (hb3 : ∀ d, b3 (ix3 0 0 d) = W.b 0 3 d)
    (hu0 : ∀ (j : Fin 256) (d : Fin 1152), wu (ix3 0 (⟨j.val, by omega⟩ : Fin 1024) d) = W.wu 0 0 j d * W.wus 0 0 d)
    (hu1 : ∀ (j : Fin 256) (d : Fin 1152), wu (ix3 0 (⟨256 + j.val, by omega⟩ : Fin 1024) d) = W.wu 0 1 j d * W.wus 0 1 d)
    (hu2 : ∀ (j : Fin 256) (d : Fin 1152), wu (ix3 0 (⟨512 + j.val, by omega⟩ : Fin 1024) d) = W.wu 0 2 j d * W.wus 0 2 d)
    (hu3 : ∀ (j : Fin 256) (d : Fin 1152), wu (ix3 0 (⟨768 + j.val, by omega⟩ : Fin 1024) d) = W.wu 0 3 j d * W.wus 0 3 d) (d : Fin 1152) :
    k0_pay51 (k0_pay43 R) (k0_pay44 v6) (k0_pay48 s c (k0_pay43 R) (k0_pay45 s c R wv0 wvs0 wc0) (k0_pay46 s c (k0_pay41 R) wv1 wvs1 wc1)
      (k0_pay47 s c (k0_pay42 R) wv2 wvs2 wc2) wv3 wvs3 wc3 wu) (k0_pay49 (k0_pay40 R) (k0_pay41 R) b0 b1) (k0_pay50 (k0_pay42 R) b2) b3 (ix2 r d)
      = layer W 0 X X d := by
  have g0 := gate0_at R r (lg W 0 X) hR
  have g1 := gate1_at R r (lg W 0 X) hR
  have g2 := gate2_at R r (lg W 0 X) hR
  have g3 := gate3_at R r (lg W 0 X) hR
  have p0 : ∀ d, (∑ j : Fin 256, k0_pay45 s c R wv0 wvs0 wc0 (ix2 r j) * wu (ix3 0 (⟨j.val, by omega⟩ : Fin 1024) d)) = part W 0 X d 0 := fun d =>
    Finset.sum_congr rfl fun j _ => by rw [pay45_at, hu0]; simp only [hs, hc, hwv0, hwvs0, hwc0, g0]
  have p1 : ∀ d, (∑ j : Fin 256, k0_pay46 s c (k0_pay41 R) wv1 wvs1 wc1 (ix2 r j) * wu (ix3 0 (⟨256 + j.val, by omega⟩ : Fin 1024) d)) = part W 0 X d 1 := fun d =>
    Finset.sum_congr rfl fun j _ => by rw [pay46_at, hu1]; simp only [hs, hc, hwv1, hwvs1, hwc1, g1]
  have p2 : ∀ d, (∑ j : Fin 256, k0_pay47 s c (k0_pay42 R) wv2 wvs2 wc2 (ix2 r j) * wu (ix3 0 (⟨512 + j.val, by omega⟩ : Fin 1024) d)) = part W 0 X d 2 := fun d =>
    Finset.sum_congr rfl fun j _ => by rw [pay47_at, hu2]; simp only [hs, hc, hwv2, hwvs2, hwc2, g2]
  have p3 : ∀ d, (∑ j : Fin 256, hid (k0_pay43 R (ix2 r 0)) (s (ix2 r 0)) (fun k => c (ix2 r k)) (fun k i => wv3 (ix3 0 k i)) (fun i => wvs3 (ix3 0 0 i)) (fun i j => wc3 (ix4 0 0 i j)) j * wu (ix3 0 (⟨768 + j.val, by omega⟩ : Fin 1024) d)) = part W 0 X d 3 := fun d =>
    Finset.sum_congr rfl fun j _ => by rw [hu3]; simp only [hs, hc, hwv3, hwvs3, hwc3, g3]
  rw [pay51_at, pay48_at, p0, p1, p2, p3, hv, hb0, hb1, hb2, hb3, g0, g1, g2, g3]
  rfl

/-- The second layer. -/
theorem row1 (W : Wts) (X V : Fin 1152 → EReal) (r : Fin 512) (v6 : FVec Ideal S512x1152 .bf16) (v213 : FVec Ideal S512x1152 .f32) (s : FVec Ideal S512x1 .f32) (c : FVec Ideal S512x1152 .fp8e4m3)
    (a1 a2 a3 a4 g1 g2 g3 : FVec Ideal S512x1 .f32) (wv0 : Vec Ideal S1x1152x256 .fp8e4m3) (wvs0 : Vec Ideal S1x1x256 .f32) (wc0 : Vec Ideal S1x1x256x256 .bf16) (b0 : Vec Ideal S1x1x1152 .f32)
    (wv1 : Vec Ideal S1x1152x256 .fp8e4m3) (wvs1 : Vec Ideal S1x1x256 .f32) (wc1 : Vec Ideal S1x1x256x256 .bf16) (b1 : Vec Ideal S1x1x1152 .f32)
    (wv2 : Vec Ideal S1x1152x256 .fp8e4m3) (wvs2 : Vec Ideal S1x1x256 .f32) (wc2 : Vec Ideal S1x1x256x256 .bf16) (b2 : Vec Ideal S1x1x1152 .f32)
    (wv3 : Vec Ideal S1x1152x256 .fp8e4m3) (wvs3 : Vec Ideal S1x1x256 .f32) (wc3 : Vec Ideal S1x1x256x256 .bf16) (b3 : Vec Ideal S1x1x1152 .f32)
    (wu : Vec Ideal S1x1024x1152 .bf16)
    (hv : ∀ k, v6 (ix2 r k) = X k) (hV : ∀ k, v213 (ix2 r k) = V k) (hs : s (ix2 r 0) = sOf V) (hc : ∀ k, c (ix2 r k) = codeOf V k)
    (e0 : k0_pay71 a1 a2 a3 a4 (ix2 r 0) = gate (lg W 1 V) 0) (e1 : g1 (ix2 r 0) = gate (lg W 1 V) 1) (e2 : g2 (ix2 r 0) = gate (lg W 1 V) 2)
    (e3 : g3 (ix2 r 0) = gate (lg W 1 V) 3)
    (hwv0 : ∀ k j, wv0 (ix3 0 k j) = W.wv 1 0 k j) (hwvs0 : ∀ j, wvs0 (ix3 0 0 j) = W.wvs 1 0 j)
    (hwc0 : ∀ i j, wc0 (ix4 0 0 i j) = W.wc 1 0 i j) (hb0 : ∀ d, b0 (ix3 0 0 d) = W.b 1 0 d)
    (hwv1 : ∀ k j, wv1 (ix3 0 k j) = W.wv 1 1 k j) (hwvs1 : ∀ j, wvs1 (ix3 0 0 j) = W.wvs 1 1 j)
    (hwc1 : ∀ i j, wc1 (ix4 0 0 i j) = W.wc 1 1 i j) (hb1 : ∀ d, b1 (ix3 0 0 d) = W.b 1 1 d)
    (hwv2 : ∀ k j, wv2 (ix3 0 k j) = W.wv 1 2 k j) (hwvs2 : ∀ j, wvs2 (ix3 0 0 j) = W.wvs 1 2 j)
    (hwc2 : ∀ i j, wc2 (ix4 0 0 i j) = W.wc 1 2 i j) (hb2 : ∀ d, b2 (ix3 0 0 d) = W.b 1 2 d)
    (hwv3 : ∀ k j, wv3 (ix3 0 k j) = W.wv 1 3 k j) (hwvs3 : ∀ j, wvs3 (ix3 0 0 j) = W.wvs 1 3 j)
    (hwc3 : ∀ i j, wc3 (ix4 0 0 i j) = W.wc 1 3 i j) (hb3 : ∀ d, b3 (ix3 0 0 d) = W.b 1 3 d)
    (hu0 : ∀ (j : Fin 256) (d : Fin 1152), wu (ix3 0 (⟨j.val, by omega⟩ : Fin 1024) d) = W.wu 1 0 j d * W.wus 1 0 d)
    (hu1 : ∀ (j : Fin 256) (d : Fin 1152), wu (ix3 0 (⟨256 + j.val, by omega⟩ : Fin 1024) d) = W.wu 1 1 j d * W.wus 1 1 d)
    (hu2 : ∀ (j : Fin 256) (d : Fin 1152), wu (ix3 0 (⟨512 + j.val, by omega⟩ : Fin 1024) d) = W.wu 1 2 j d * W.wus 1 2 d)
    (hu3 : ∀ (j : Fin 256) (d : Fin 1152), wu (ix3 0 (⟨768 + j.val, by omega⟩ : Fin 1024) d) = W.wu 1 3 j d * W.wus 1 3 d) (d : Fin 1152) :
    k0_pay82 v6 v213 (k0_pay71 a1 a2 a3 a4) g1 g2 g3 (k0_pay75 s c a1 a2 a3 a4 wv0 wvs0 wc0) (k0_pay78 g1 (k0_pay76 s c wv1 wvs1) (k0_pay77 wc1))
      (k0_pay79 s c g2 wv2 wvs2 wc2) (k0_pay80 s c wv3 wvs3) (k0_pay81 wc3) wu b0 b1 b2 b3 (ix2 r d)
      = layer W 1 X V d := by
  have p0 : ∀ d, (∑ j : Fin 256, k0_pay75 s c a1 a2 a3 a4 wv0 wvs0 wc0 (ix2 r j) * wu (ix3 0 (⟨j.val, by omega⟩ : Fin 1024) d)) = part W 1 V d 0 := fun d =>
    Finset.sum_congr rfl fun j _ => by rw [pay75_at, hu0]; simp only [hs, hc, hwv0, hwvs0, hwc0, e0]
  have p1 : ∀ d, (∑ j : Fin 256, k0_pay78 g1 (k0_pay76 s c wv1 wvs1) (k0_pay77 wc1) (ix2 r j) * wu (ix3 0 (⟨256 + j.val, by omega⟩ : Fin 1024) d)) = part W 1 V d 1 := fun d =>
    Finset.sum_congr rfl fun j _ => by rw [pay78_at, hu1]; simp only [hs, hc, hwv1, hwvs1, hwc1, e1]
  have p2 : ∀ d, (∑ j : Fin 256, k0_pay79 s c g2 wv2 wvs2 wc2 (ix2 r j) * wu (ix3 0 (⟨512 + j.val, by omega⟩ : Fin 1024) d)) = part W 1 V d 2 := fun d =>
    Finset.sum_congr rfl fun j _ => by rw [pay79_at, hu2]; simp only [hs, hc, hwv2, hwvs2, hwc2, e2]
  have p3 : ∀ d, (∑ j : Fin 256, hid (g3 (ix2 r 0)) (s (ix2 r 0)) (fun k => c (ix2 r k)) (fun k i => wv3 (ix3 0 k i)) (fun i => wvs3 (ix3 0 0 i)) (fun i j => wc3 (ix4 0 0 i j)) j * wu (ix3 0 (⟨768 + j.val, by omega⟩ : Fin 1024) d)) = part W 1 V d 3 := fun d =>
    Finset.sum_congr rfl fun j _ => by rw [hu3]; simp only [hs, hc, hwv3, hwvs3, hwc3, e3]
  rw [pay82_at, p0, p1, p2, p3, hv, hV, hb0, hb1, hb2, hb3, e0, e1, e2, e3]
  rfl

end Cert.Proof
end
-- ==== Proof.Misc.lean ====
module
public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The rows of the result that holds the logits and the scales. -/

/-- A selection on a lane's number. -/
theorem sel_lane (q n : ℕ) (hq : q < 128) (hn : n < 128) (a b : EReal) :
    Scalar.select (IntOp.cmpi .eq (BitVec.ofNat 32 q) (BitVec.ofNat 32 n)) a b = if q = n then a else b := by
  have : (BitVec.ofNat 32 q = BitVec.ofNat 32 n) ↔ q = n := by
    constructor
    · intro h
      have := congrArg BitVec.toNat h
      simp at this
      omega
    · rintro rfl; rfl
  by_cases h : q = n
  · subst h; simp [Scalar.select, IntOp.cmpi]
  · have hb : (BitVec.ofNat 32 q == BitVec.ofNat 32 n) = false := beq_eq_false_iff_ne.mpr fun e => h (this.mp e)
    simp [Scalar.select, IntOp.cmpi, hb, h]

/-- A selection on a lane's number being below four. -/
theorem sel_low : ∀ q : Fin 16, IntOp.cmpi .slt (BitVec.ofNat 32 q.val) 4#32 = if q.val < 4 then 1#1 else 0#1 := by decide

/-- The result's row `q`, by lane. -/
theorem misc_at (v66 v272 : FVec Ideal S512x1 .f32) (v85 : FVec Ideal S512x128 .f32) (v : FVec Ideal S512x1152 .f32)
    (w0 w1 w2 w3 : Vec Ideal S1x1x1152 .f32) (q : Fin 16) (r : Fin 512) :
    k0_pay1 (iota .tc S512x128 32 [1] iota_S512x128_d1_w32) v66 v272
      (k0_pay63 (iota .tc S512x128 32 [1] iota_S512x128_d1_w32) (k0_pay33 (iota .tc S512x128 32 [1] iota_S512x128_d1_w32) k0_pay18 v85) v
        (k0_pay58 v w0) (k0_pay59 w1) w2 w3) k0_pay83 (ix2 q r)
      = if q.val = 9 then v272 (ix2 r 0) else if q.val = 8 then v66 (ix2 r 0) else if q.val = 7 then k0_pay62 v w3 (ix2 r 0)
        else if q.val = 6 then k0_pay61 v w2 (ix2 r 0) else if q.val = 5 then k0_pay60 v (k0_pay59 w1) (ix2 r 0)
        else if q.val = 4 then k0_pay58 v w0 (ix2 r 0) else if q.val < 4 then v85 (ix2 r (⟨q.val, by omega⟩ : Fin 128)) else 0 := by
  pointwise [k0_pay1, k0_pay63, k0_pay33, k0_pay18, k0_pay83]
  rw [sel_lane q.val 9 (by omega) (by norm_num), sel_lane q.val 8 (by omega) (by norm_num), sel_lane q.val 7 (by omega) (by norm_num),
    sel_lane q.val 6 (by omega) (by norm_num), sel_lane q.val 5 (by omega) (by norm_num), sel_lane q.val 4 (by omega) (by norm_num), sel_low q]
  by_cases h : q.val < 4
  · rw [if_pos h, if_pos h]; rfl
  · rw [if_neg h, if_neg h]; rfl

end Cert.Proof
end
-- ==== Proof.Search.lean ====
module
public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The kernel's search for the scale's exponent, on whole columns. -/

/-- One step of the search, on a column. -/
def vstep (a : FVec Ideal S512x1 .f32) (b : IVec S512x1 32) (c : BitVec 32) : IVec S512x1 32 :=
  select (cmpf .olt a (bitcastToFloat .f32 (addi b (broadcast S512x1 c)))) b (addi b (broadcast S512x1 c))

/-- A step on a column is the scalar step at each row. -/
theorem vstep_at (a : FVec Ideal S512x1 .f32) (b : IVec S512x1 32) (c : BitVec 32) (j : S512x1.Idx) :
    vstep a b c j = step (a j) (b j) c := rfl

/-- The minimum of two arrays of words, entry by entry. -/
theorem minsi_at (a b : IVec S512x1 32) (j : S512x1.Idx) : minsi a b j = IntOp.minsi (a j) (b j) := rfl

/-- An entry of a constant array. -/
theorem broadcast_at (c : BitVec 32) (j : S512x1.Idx) : broadcast S512x1 c j = c := rfl

/-- All steps and the clamp, at a row. -/
theorem chain_at (a : FVec Ideal S512x1 .f32) (j : S512x1.Idx) :
    minsi (vstep a (vstep a (vstep a (vstep a (vstep a (vstep a (vstep a (vstep a (broadcast S512x1 0#32) 1073741824#32) 536870912#32)
      268435456#32) 134217728#32) 67108864#32) 33554432#32) 16777216#32) 8388608#32) (broadcast S512x1 2113929216#32) j
      = IntOp.minsi (search (a j)) 2113929216#32 := by
  rw [minsi_at, vstep_at, vstep_at, vstep_at, vstep_at, vstep_at, vstep_at, vstep_at, vstep_at, broadcast_at, broadcast_at]
  delta search
  with_reducible rfl

/-- The first five steps. -/
theorem pay21_eq (v5 : Vec Ideal S512x1152 .bf16) :
    k0_pay21 v5 = vstep (k0_pay20 v5) (vstep (k0_pay20 v5) (vstep (k0_pay20 v5) (vstep (k0_pay20 v5)
      (vstep (k0_pay20 v5) (broadcast S512x1 0#32) 1073741824#32) 536870912#32) 268435456#32) 134217728#32) 67108864#32 := by
  delta k0_pay21 vstep
  with_reducible rfl

/-- The sixth step and its comparison. -/
theorem pay22_eq (v5 : Vec Ideal S512x1152 .bf16) :
    select (k0_pay23 v5) (k0_pay21 v5) (k0_pay22 v5) = vstep (k0_pay20 v5) (k0_pay21 v5) 33554432#32 := by
  delta k0_pay23 k0_pay22 vstep
  with_reducible rfl

/-- The last two steps and the clamp. -/
theorem pay24_eq (a : FVec Ideal S512x1 .f32) (b c : IVec S512x1 32) (d : IVec S512x1 1) :
    k0_pay24 a b c d = minsi (vstep a (vstep a (select d b c) 16777216#32) 8388608#32) (broadcast S512x1 2113929216#32) := by
  delta k0_pay24 vstep
  with_reducible rfl

/-- The first layer's exponent word. -/
theorem word0 (v5 : Vec Ideal S512x1152 .bf16) (j : S512x1.Idx) (h : 0 ≤ k0_pay20 v5 j) :
    k0_pay24 (k0_pay20 v5) (k0_pay21 v5) (k0_pay22 v5) (k0_pay23 v5) j = word (reached (k0_pay20 v5 j)) := by
  rw [pay24_eq, pay22_eq, pay21_eq, ← search_eq _ h]
  exact chain_at _ _

/-- The second layer's first six steps. -/
theorem pay53_eq (v110 : FVec Ideal S512x1 .f32) (v111 v187 v198 v203 : FVec Ideal S512x1152 .f32) (v205 : Vec Ideal S1x1x1152 .f32) :
    k0_pay53 v110 v111 v187 v198 v203 v205 = vstep (k0_pay52 v110 v111 v187 v198 v203 v205) (vstep (k0_pay52 v110 v111 v187 v198 v203 v205)
      (vstep (k0_pay52 v110 v111 v187 v198 v203 v205) (vstep (k0_pay52 v110 v111 v187 v198 v203 v205)
      (vstep (k0_pay52 v110 v111 v187 v198 v203 v205) (vstep (k0_pay52 v110 v111 v187 v198 v203 v205) (broadcast S512x1 0#32) 1073741824#32)
        536870912#32) 268435456#32) 134217728#32) 67108864#32) 33554432#32 := by
  delta k0_pay53 vstep
  with_reducible rfl

/-- The second layer's last two steps and the clamp. -/
theorem pay54_eq (a : FVec Ideal S512x1 .f32) (b : IVec S512x1 32) (c : BitVec 32) :
    k0_pay54 a b c = minsi (vstep a (vstep a b c) 8388608#32) (broadcast S512x1 2113929216#32) := by
  delta k0_pay54 vstep
  with_reducible rfl

/-- The second layer's exponent word. -/
theorem word1 (v110 : FVec Ideal S512x1 .f32) (v111 v187 v198 v203 : FVec Ideal S512x1152 .f32) (v205 : Vec Ideal S1x1x1152 .f32)
    (j : S512x1.Idx) (h : 0 ≤ k0_pay52 v110 v111 v187 v198 v203 v205 j) :
    k0_pay54 (k0_pay52 v110 v111 v187 v198 v203 v205) (k0_pay53 v110 v111 v187 v198 v203 v205) 16777216#32 j
      = word (reached (k0_pay52 v110 v111 v187 v198 v203 v205 j)) := by
  rw [pay54_eq, pay53_eq, ← search_eq _ h]
  exact chain_at _ _

end Cert.Proof
end
-- ==== Proof.Amax.lean ====
module
public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The scaled row maximum of each layer. -/

/-- The first layer's scaled row maximum. -/
theorem pay20_at (x : Vec Ideal S512x1152 .bf16) (r : Fin 512) : k0_pay20 x (ix2 r 0) = scaled fun k => x (ix2 r k) := by
  pointwise [k0_pay20, k0_pay19]
  rw [bot_bf16]
  exact mag_of_nonneg (scaled_nonneg _)

end Cert.Proof
end
-- ==== Proof.Amax1.lean ====
module
public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-- The second layer's scaled row maximum, of any vector. -/
def amaxV (v : FVec Ideal S512x1152 .f32) : FVec Ideal S512x1 .f32 :=
  absf (mulf (shapeCast S512x1 (multiReduction .maximumf [1] S512 (absf v) 0xFF800000#32 reduces_S512x1152_S512 (.inl rfl) rfl) (by decide))
    (broadcast S512x1 (Scalar.ofBits .f32 0x3B124925#32)))

/-- The second layer's scaled row maximum is that of the first layer's result. -/
theorem pay52_eq (v110 : FVec Ideal S512x1 .f32) (v111 v187 v198 v203 : FVec Ideal S512x1152 .f32) (v205 : Vec Ideal S1x1x1152 .f32) :
    k0_pay52 v110 v111 v187 v198 v203 v205 = amaxV (k0_pay51 v110 v111 v187 v198 v203 v205) := by
  delta k0_pay52 amaxV
  with_reducible rfl

/-- The scaled row maximum of an array, at a row, is the scaled maximum of that row. -/
theorem amaxV_at (v : FVec Ideal S512x1152 .f32) (r : Fin 512) : amaxV v (ix2 r 0) = scaled fun k => v (ix2 r k) := by
  pointwise [amaxV]
  rw [bot_f32]
  exact mag_of_nonneg (scaled_nonneg _)

end Cert.Proof
end
-- ==== Proof.BlockAt.lean ====
module
public import proofs.«01_k».proof.Proof.Gen.KernelIdeal.Frame
public import proofs.«01_k».proof.Proof.Spec
public import proofs.«01_k».proof.Proof.Loads
public import proofs.«01_k».proof.Proof.Row
public import proofs.«01_k».proof.Proof.Misc
public import proofs.«01_k».proof.Proof.Search
public import proofs.«01_k».proof.Proof.Amax
public import proofs.«01_k».proof.Proof.Amax1
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! What one grid point writes, at an index: the mathematics of the row, when the scratch buffers hold the scaled factors and
the gate weights. -/

section
variable (x0 : Vec Ideal S512x1152 .bf16) (x1 : Vec Ideal S2x4x1152 .f32) (x2 : Vec Ideal S2x1152x1024 .fp8e4m3) (x3 : Vec Ideal S2x4x256 .f32) (x4 : Vec Ideal S2x4x256x256 .bf16) (x5 : Vec Ideal S2x1024x1152 .fp8e4m3) (x6 : Vec Ideal S2x4x1152 .f32) (x7 : Vec Ideal S2x4x1152 .f32)
  (xs0 : Vec Ideal S2x1024x1152 .bf16) (xs1 : Vec Ideal S128x1152 .bf16) (r : Fin 512)

/-- The exponent word of a row of the input is the word of the number of powers its scaled maximum reaches. -/
theorem kS0_word : k0_pay24 (k0_pay20 x0) (k0_pay21 x0) (k0_pay22 x0) (k0_pay23 x0) (ix2 r 0) = word (reached (scaled (fun k => x0 (ix2 r k)))) := by
  rw [word0 _ _ (by rw [pay20_at]; exact scaled_nonneg _), pay20_at]

/-- The first layer's scale. -/
theorem kS0_at : kS0 x0 (ix2 r 0) = sOf (fun k => x0 (ix2 r k)) := pay26_at _ _ _ _ r _ (kS0_word x0 r)

/-- The first layer's codes. -/
theorem kC0_at (k : Fin 1152) : kC0 x0 (ix2 r k) = codeOf (fun k => x0 (ix2 r k)) k := by
  rw [kC0, pay27_at _ _ _ _ _ r _ (kS0_word x0 r), pay19_at]
  rfl

/-- The first layer's gate logits. -/
theorem kR0_at (h0 : ∀ (e : Fin 4) (k : Fin 1152), xs1 (ix2 (⟨e.val, by omega⟩ : Fin 128) k) = x1 (ix3 0 e k)) (h1 : ∀ (e : Fin 4) (q : Fin 128) (k : Fin 1152), q.val = 124 + e.val ∨ q.val = 120 + e.val ∨ q.val = 116 + e.val → xs1 (ix2 q k) = 0) (e : Fin 4) :
    kR0 x0 xs1 (ix2 r (⟨e.val, by omega⟩ : Fin 128)) = lg (wts x1 x2 x3 x4 x5 x6 x7) 0 (fun k => x0 (ix2 r k)) e := by
  rw [kR0, pay28_at _ _ (fun e k => x1 (ix3 0 e k)) h0 h1]
  simp only [pay19_at]
  rfl

/-- The row after the first layer. -/
theorem kX1_at (h0 : ∀ (e : Fin 4) (k : Fin 1152), xs1 (ix2 (⟨e.val, by omega⟩ : Fin 128) k) = x1 (ix3 0 e k)) (h1 : ∀ (e : Fin 4) (q : Fin 128) (k : Fin 1152), q.val = 124 + e.val ∨ q.val = 120 + e.val ∨ q.val = 116 + e.val → xs1 (ix2 q k) = 0)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d) (d : Fin 1152) :
    kX1 x0 x2 x3 x4 x7 xs0 xs1 (ix2 r d) = mid (wts x1 x2 x3 x4 x5 x6 x7) (fun k => x0 (ix2 r k)) d :=
  row0 (wts x1 x2 x3 x4 x5 x6 x7) (fun k => x0 (ix2 r k)) r _ _ _ _ _ _ _ _ _ _ _ _ _ _ _ _ _ _ _ _ _
    (fun k => pay19_at x0 r k) (kS0_at x0 r) (kC0_at x0 r) (kR0_at x0 x1 x2 x3 x4 x5 x6 x7 xs1 r h0 h1)
    (ld_wv00 x1 x2 x3 x4 x5 x6 x7) (ld_wvs00 x1 x2 x3 x4 x5 x6 x7) (ld_wc00 x1 x2 x3 x4 x5 x6 x7) (ld_b00 x1 x2 x3 x4 x5 x6 x7) (ld_wv01 x1 x2 x3 x4 x5 x6 x7) (ld_wvs01 x1 x2 x3 x4 x5 x6 x7) (ld_wc01 x1 x2 x3 x4 x5 x6 x7) (ld_b01 x1 x2 x3 x4 x5 x6 x7) (ld_wv02 x1 x2 x3 x4 x5 x6 x7) (ld_wvs02 x1 x2 x3 x4 x5 x6 x7) (ld_wc02 x1 x2 x3 x4 x5 x6 x7) (ld_b02 x1 x2 x3 x4 x5 x6 x7) (ld_wv03 x1 x2 x3 x4 x5 x6 x7) (ld_wvs03 x1 x2 x3 x4 x5 x6 x7) (ld_wc03 x1 x2 x3 x4 x5 x6 x7) (ld_b03 x1 x2 x3 x4 x5 x6 x7)
    (ld_u00 x1 x2 x3 x4 x5 x6 x7 xs0 hU) (ld_u01 x1 x2 x3 x4 x5 x6 x7 xs0 hU) (ld_u02 x1 x2 x3 x4 x5 x6 x7 xs0 hU) (ld_u03 x1 x2 x3 x4 x5 x6 x7 xs0 hU) d

/-- The second layer's scaled row maximum. -/
theorem kM1_at (h0 : ∀ (e : Fin 4) (k : Fin 1152), xs1 (ix2 (⟨e.val, by omega⟩ : Fin 128) k) = x1 (ix3 0 e k)) (h1 : ∀ (e : Fin 4) (q : Fin 128) (k : Fin 1152), q.val = 124 + e.val ∨ q.val = 120 + e.val ∨ q.val = 116 + e.val → xs1 (ix2 q k) = 0)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d) :
    kM1 x0 x2 x3 x4 x7 xs0 xs1 (ix2 r 0) = scaled (mid (wts x1 x2 x3 x4 x5 x6 x7) (fun k => x0 (ix2 r k))) := by
  rw [kM1, pay52_eq, amaxV_at]
  exact congrArg scaled (funext fun k => kX1_at x0 x1 x2 x3 x4 x5 x6 x7 xs0 xs1 r h0 h1 hU k)

/-- The exponent word of a row after the first layer is the word of the number of powers its scaled maximum reaches. -/
theorem kN1_word (h0 : ∀ (e : Fin 4) (k : Fin 1152), xs1 (ix2 (⟨e.val, by omega⟩ : Fin 128) k) = x1 (ix3 0 e k)) (h1 : ∀ (e : Fin 4) (q : Fin 128) (k : Fin 1152), q.val = 124 + e.val ∨ q.val = 120 + e.val ∨ q.val = 116 + e.val → xs1 (ix2 q k) = 0)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d) :
    k0_pay54 (kM1 x0 x2 x3 x4 x7 xs0 xs1) (kN1 x0 x2 x3 x4 x7 xs0 xs1) 16777216#32 (ix2 r 0) = word (reached (scaled (mid (wts x1 x2 x3 x4 x5 x6 x7) (fun k => x0 (ix2 r k))))) := by
  have h := kM1_at x0 x1 x2 x3 x4 x5 x6 x7 xs0 xs1 r h0 h1 hU
  rw [← h]
  exact word1 _ _ _ _ _ _ _ (le_of_le_of_eq (scaled_nonneg _) h.symm)

/-- The second layer's scale. -/
theorem kS1_at (h0 : ∀ (e : Fin 4) (k : Fin 1152), xs1 (ix2 (⟨e.val, by omega⟩ : Fin 128) k) = x1 (ix3 0 e k)) (h1 : ∀ (e : Fin 4) (q : Fin 128) (k : Fin 1152), q.val = 124 + e.val ∨ q.val = 120 + e.val ∨ q.val = 116 + e.val → xs1 (ix2 q k) = 0)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d) :
    kS1 x0 x2 x3 x4 x7 xs0 xs1 (ix2 r 0) = sOf (mid (wts x1 x2 x3 x4 x5 x6 x7) (fun k => x0 (ix2 r k))) := pay56_at _ _ _ r _ (kN1_word x0 x1 x2 x3 x4 x5 x6 x7 xs0 xs1 r h0 h1 hU)

/-- The second layer's codes. -/
theorem kC1_at (h0 : ∀ (e : Fin 4) (k : Fin 1152), xs1 (ix2 (⟨e.val, by omega⟩ : Fin 128) k) = x1 (ix3 0 e k)) (h1 : ∀ (e : Fin 4) (q : Fin 128) (k : Fin 1152), q.val = 124 + e.val ∨ q.val = 120 + e.val ∨ q.val = 116 + e.val → xs1 (ix2 q k) = 0)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d) (k : Fin 1152) :
    kC1 x0 x2 x3 x4 x7 xs0 xs1 (ix2 r k) = codeOf (mid (wts x1 x2 x3 x4 x5 x6 x7) (fun k => x0 (ix2 r k))) k := by
  rw [kC1, pay57_at _ _ _ _ r _ (kN1_word x0 x1 x2 x3 x4 x5 x6 x7 xs0 xs1 r h0 h1 hU), kX1_at x0 x1 x2 x3 x4 x5 x6 x7 xs0 xs1 r h0 h1 hU]
  rfl

/-- A logit of the second layer: a row against a gate row. -/
theorem lg1 (v : FVec Ideal S512x1152 .f32) (w : Vec Ideal S1x1x1152 .f32) (W : Wts) (V : Fin 1152 → EReal) (e : Fin 4)
    (hv : ∀ k, v (ix2 r k) = V k) (hw : ∀ k, w (ix3 0 0 k) = W.wg 1 e k) : (∑ k, v (ix2 r k) * w (ix3 0 0 k)) = lg W 1 V e :=
  Finset.sum_congr rfl fun k _ => by rw [hv, hw]

/-- The row after both layers. -/
theorem kY_at (h0 : ∀ (e : Fin 4) (k : Fin 1152), xs1 (ix2 (⟨e.val, by omega⟩ : Fin 128) k) = x1 (ix3 0 e k)) (h1 : ∀ (e : Fin 4) (q : Fin 128) (k : Fin 1152), q.val = 124 + e.val ∨ q.val = 120 + e.val ∨ q.val = 116 + e.val → xs1 (ix2 q k) = 0)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d) (d : Fin 1152) :
    kY x0 x1 x2 x3 x4 x7 xs0 xs1 (ix2 r d) = fin (wts x1 x2 x3 x4 x5 x6 x7) (fun k => x0 (ix2 r k)) d := by
  have hX := kX1_at x0 x1 x2 x3 x4 x5 x6 x7 xs0 xs1 r h0 h1 hU
  have g0 := (pay58_at _ _ r).trans (lg1 r _ _ _ _ 0 hX (ld_g0 x1 x2 x3 x4 x5 x6 x7))
  have g1 := (pay60_at _ _ r).trans (lg1 r _ _ _ _ 1 hX (ld_g1 x1 x2 x3 x4 x5 x6 x7))
  have g2 := (pay61_at _ _ r).trans (lg1 r _ _ _ _ 2 hX (ld_g2 x1 x2 x3 x4 x5 x6 x7))
  have g3 := (pay62_at _ _ r).trans (lg1 r _ _ _ _ 3 hX (ld_g3 x1 x2 x3 x4 x5 x6 x7))
  exact row1 (wts x1 x2 x3 x4 x5 x6 x7) (fun k => x0 (ix2 r k)) (mid (wts x1 x2 x3 x4 x5 x6 x7) (fun k => x0 (ix2 r k))) r _ _ _ _ _ _ _ _ _ _ _ _ _ _ _ _ _ _ _ _ _ _ _ _ _ _ _ _
    (fun k => pay19_at x0 r k) hX (kS1_at x0 x1 x2 x3 x4 x5 x6 x7 xs0 xs1 r h0 h1 hU) (kC1_at x0 x1 x2 x3 x4 x5 x6 x7 xs0 xs1 r h0 h1 hU)
    (gate1_0 _ _ _ _ _ r _ g0 g1 g2 g3) (gate1_1 _ _ _ _ _ r _ g0 g1 g2 g3) (gate1_2 _ _ _ _ _ r _ g0 g1 g2 g3) (gate1_3 _ _ _ _ _ r _ g0 g1 g2 g3)
    (ld_wv10 x1 x2 x3 x4 x5 x6 x7) (ld_wvs10 x1 x2 x3 x4 x5 x6 x7) (ld_wc10 x1 x2 x3 x4 x5 x6 x7) (ld_b10 x1 x2 x3 x4 x5 x6 x7) (ld_wv11 x1 x2 x3 x4 x5 x6 x7) (ld_wvs11 x1 x2 x3 x4 x5 x6 x7) (ld_wc11 x1 x2 x3 x4 x5 x6 x7) (ld_b11 x1 x2 x3 x4 x5 x6 x7) (ld_wv12 x1 x2 x3 x4 x5 x6 x7) (ld_wvs12 x1 x2 x3 x4 x5 x6 x7) (ld_wc12 x1 x2 x3 x4 x5 x6 x7) (ld_b12 x1 x2 x3 x4 x5 x6 x7) (ld_wv13 x1 x2 x3 x4 x5 x6 x7) (ld_wvs13 x1 x2 x3 x4 x5 x6 x7) (ld_wc13 x1 x2 x3 x4 x5 x6 x7) (ld_b13 x1 x2 x3 x4 x5 x6 x7)
    (ld_u10 x1 x2 x3 x4 x5 x6 x7 xs0 hU) (ld_u11 x1 x2 x3 x4 x5 x6 x7 xs0 hU) (ld_u12 x1 x2 x3 x4 x5 x6 x7 xs0 hU) (ld_u13 x1 x2 x3 x4 x5 x6 x7 xs0 hU) d

/-- What row `q` of the last result holds: the logits of the two layers, then the two scales. -/
def miscOf (W : Wts) (x : Fin 1152 → EReal) (q : ℕ) : EReal :=
  if q = 9 then sOf (mid W x) else if q = 8 then sOf x else if q = 7 then lg W 1 (mid W x) 3 else if q = 6 then lg W 1 (mid W x) 2
  else if q = 5 then lg W 1 (mid W x) 1 else if q = 4 then lg W 1 (mid W x) 0 else if h : q < 4 then lg W 0 x ⟨q, h⟩ else 0

/-- The logits and the scales. -/
theorem kMisc_at (h0 : ∀ (e : Fin 4) (k : Fin 1152), xs1 (ix2 (⟨e.val, by omega⟩ : Fin 128) k) = x1 (ix3 0 e k)) (h1 : ∀ (e : Fin 4) (q : Fin 128) (k : Fin 1152), q.val = 124 + e.val ∨ q.val = 120 + e.val ∨ q.val = 116 + e.val → xs1 (ix2 q k) = 0)
    (hU : ∀ (l : Fin 2) (e : Fin 4) (j : Fin 256) (d : Fin 1152), xs0 (ix3 l (⟨256 * e.val + j.val, by omega⟩ : Fin 1024) d) = (wts x1 x2 x3 x4 x5 x6 x7).wu l e j d * (wts x1 x2 x3 x4 x5 x6 x7).wus l e d) (q : Fin 16) :
    kMisc x0 x1 x2 x3 x4 x7 xs0 xs1 (ix2 q r) = miscOf (wts x1 x2 x3 x4 x5 x6 x7) (fun k => x0 (ix2 r k)) q.val := by
  have hX := kX1_at x0 x1 x2 x3 x4 x5 x6 x7 xs0 xs1 r h0 h1 hU
  have g0 := (pay58_at _ _ r).trans (lg1 r _ _ _ _ 0 hX (ld_g0 x1 x2 x3 x4 x5 x6 x7))
  have g1 := (pay60_at _ _ r).trans (lg1 r _ _ _ _ 1 hX (ld_g1 x1 x2 x3 x4 x5 x6 x7))
  have g2 := (pay61_at _ _ r).trans (lg1 r _ _ _ _ 2 hX (ld_g2 x1 x2 x3 x4 x5 x6 x7))
  have g3 := (pay62_at _ _ r).trans (lg1 r _ _ _ _ 3 hX (ld_g3 x1 x2 x3 x4 x5 x6 x7))
  rw [kMisc, misc_at, kS0_at, kS1_at x0 x1 x2 x3 x4 x5 x6 x7 xs0 xs1 r h0 h1 hU, g0, g1, g2, g3, miscOf]
  by_cases h : q.val < 4
  · rw [if_pos h, dif_pos h]
    rw [← kR0_at x0 x1 x2 x3 x4 x5 x6 x7 xs1 r h0 h1 ⟨q.val, h⟩]
  · rw [if_neg h, dif_neg h]
end

end Cert.Proof
end
-- ==== Proof.KBlk.lean ====
module
public import proofs.«01_k».proof.Proof.Gen.KernelIdeal.Frame
public import proofs.«01_k».proof.Proof.Spec
public import proofs.«01_k».proof.Proof.BlockAt
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The kernel's arrays as its region finds them, and the blocks of a grid point. -/

section
variable (m : (ℓ : Loc nD τ sig) → Buf (Elt Ideal) ℓ) (c : Dev nD)

/-- The contents of window 0's array. -/
def B0 : Vec Ideal S61440x1152 .bf16 := V m c main_v0
/-- The contents of window 1's array. -/
def B1 : Vec Ideal S2x4x1152 .f32 := V m c main_v1
/-- The contents of window 2's array. -/
def B2 : Vec Ideal S2x1152x1024 .fp8e4m3 := V m c main_v2
/-- The contents of window 3's array. -/
def B3 : Vec Ideal S2x4x256 .f32 := V m c main_arg3
/-- The contents of window 4's array. -/
def B4 : Vec Ideal S2x4x256x256 .bf16 := V m c main_arg4
/-- The contents of window 5's array. -/
def B5 : Vec Ideal S2x1024x1152 .fp8e4m3 := V m c main_v3
/-- The contents of window 6's array. -/
def B6 : Vec Ideal S2x4x1152 .f32 := V m c main_arg6
/-- The contents of window 7's array. -/
def B7 : Vec Ideal S2x4x1152 .f32 := V m c main_arg7

/-- The weights. -/
def KW : Wts := wts (B1 m c) (B2 m c) (B3 m c) (B4 m c) (B5 m c) (B6 m c) (B7 m c)
/-- A row of the input. -/
def KX (R : Fin 61440) : Fin 1152 → EReal := fun k => B0 m c (ix2 R k)

/-- The blocks of the input and of the row results move with the grid point; every other operand has one block. -/
theorem idx : ∀ t : Fin cfg0.N, win0_0.index t = ![t.val, 0] ∧ win0_1.index t = ![0, 0, 0] ∧ win0_2.index t = ![0, 0, 0] ∧ win0_3.index t = ![0, 0, 0]
    ∧ win0_4.index t = ![0, 0, 0, 0] ∧ win0_5.index t = ![0, 0, 0] ∧ win0_6.index t = ![0, 0, 0] ∧ win0_7.index t = ![0, 0, 0]
    ∧ win0_8.index t = ![t.val, 0] ∧ win0_9.index t = ![0, t.val] ∧ win0_10.index t = ![t.val, 0] ∧ win0_11.index t = ![t.val, 0] :=
  (by decide +kernel : ∀ t : Fin grid0.N, _)

/-- There are 120 grid points. -/
theorem lt_N (t : Fin cfg0.N) : t.val < 120 := by
  have h : cfg0.N = 120 := N_0
  have := t.isLt
  omega

/-- The row of the array that a block's row is. -/
def rowOf (t : Fin cfg0.N) (r : Fin 512) : Fin 61440 := ⟨512 * t.val + r.val, by have := lt_N t; omega⟩

/-- Window 0's block at a point. -/
def b0 (t : Fin cfg0.N) : Vec Ideal S512x1152 .bf16 := iblk m c 0 t

/-- A row of the input's block is the row of the input that it stands for. -/
theorem b0_at (t : Fin cfg0.N) (r : Fin 512) (k : Fin 1152) : b0 m c t (ix2 r k) = KX m c (rowOf t r) k := by
  unfold b0 KX B0
  blk_ext [iblk, idx t, rowOf]

/-- Operand 1's block, at every grid point, is the whole operand. -/
theorem b1_eq (t : Fin cfg0.N) : (iblk m c 1 t : Vec Ideal S2x4x1152 .f32) = B1 m c := by
  unfold B1
  blk_ext! [iblk, idx t]

/-- Operand 2's block, at every grid point, is the whole operand. -/
theorem b2_eq (t : Fin cfg0.N) : (iblk m c 2 t : Vec Ideal S2x1152x1024 .fp8e4m3) = B2 m c := by
  unfold B2
  blk_ext! [iblk, idx t]

/-- Operand 3's block, at every grid point, is the whole operand. -/
theorem b3_eq (t : Fin cfg0.N) : (iblk m c 3 t : Vec Ideal S2x4x256 .f32) = B3 m c := by
  unfold B3
  blk_ext! [iblk, idx t]

/-- Operand 4's block, at every grid point, is the whole operand. -/
theorem b4_eq (t : Fin cfg0.N) : (iblk m c 4 t : Vec Ideal S2x4x256x256 .bf16) = B4 m c := by
  unfold B4
  blk_ext! [iblk, idx t]

/-- Operand 5's block, at every grid point, is the whole operand. -/
theorem b5_eq (t : Fin cfg0.N) : (iblk m c 5 t : Vec Ideal S2x1024x1152 .fp8e4m3) = B5 m c := by
  unfold B5
  blk_ext! [iblk, idx t]

/-- Operand 6's block, at every grid point, is the whole operand. -/
theorem b6_eq (t : Fin cfg0.N) : (iblk m c 6 t : Vec Ideal S2x4x1152 .f32) = B6 m c := by
  unfold B6
  blk_ext! [iblk, idx t]

/-- Operand 7's block, at every grid point, is the whole operand. -/
theorem b7_eq (t : Fin cfg0.N) : (iblk m c 7 t : Vec Ideal S2x4x1152 .f32) = B7 m c := by
  unfold B7
  blk_ext! [iblk, idx t]

end

end Cert.Proof
end
-- ==== Proof.Scr.lean ====
module
public import proofs.«01_k».proof.Proof.Gen.KernelIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! What the first grid point leaves in the two scratch buffers, for the later points to read. -/

/-- The scaled last factors, as stored: one piece for each layer and expert. -/
def kWU (x5 : Vec Ideal S2x1024x1152 .fp8e4m3) (x6 : Vec Ideal S2x4x1152 .f32) : Vec Ideal S2x1024x1152 .bf16 :=
  View.canon (Val := Elt Ideal) (s := S2x1024x1152) (e := .bf16) [
    ⟨Rect.unit (s := S2x1024x1152) ![1, 768, 0] S1x256x1152.size inb_S2x1024x1152_S1x256x1152_1_768_0, k0_pay11 (View.ld x5 (Rect.unit (s := S2x1024x1152) ![1, 768, 0] S1x256x1152.size inb_S2x1024x1152_S1x256x1152_1_768_0)) (View.ld x6 (Rect.unit (s := S2x4x1152) ![1, 3, 0] S1x1x1152.size inb_S2x4x1152_S1x1x1152_1_3_0))⟩,
    ⟨Rect.unit (s := S2x1024x1152) ![1, 512, 0] S1x256x1152.size inb_S2x1024x1152_S1x256x1152_1_512_0, k0_pay10 (View.ld x5 (Rect.unit (s := S2x1024x1152) ![1, 512, 0] S1x256x1152.size inb_S2x1024x1152_S1x256x1152_1_512_0)) (View.ld x6 (Rect.unit (s := S2x4x1152) ![1, 2, 0] S1x1x1152.size inb_S2x4x1152_S1x1x1152_1_2_0))⟩,
    ⟨Rect.unit (s := S2x1024x1152) ![1, 256, 0] S1x256x1152.size inb_S2x1024x1152_S1x256x1152_1_256_0, k0_pay9 (k0_pay8 (View.ld x5 (Rect.unit (s := S2x1024x1152) ![1, 256, 0] S1x256x1152.size inb_S2x1024x1152_S1x256x1152_1_256_0)) (View.ld x6 (Rect.unit (s := S2x4x1152) ![1, 1, 0] S1x1x1152.size inb_S2x4x1152_S1x1x1152_1_1_0)))⟩,
    ⟨Rect.unit (s := S2x1024x1152) ![1, 0, 0] S1x256x1152.size inb_S2x1024x1152_S1x256x1152_1_0_0, k0_pay7 (View.ld x5 (Rect.unit (s := S2x1024x1152) ![1, 0, 0] S1x256x1152.size inb_S2x1024x1152_S1x256x1152_1_0_0)) (View.ld x6 (Rect.unit (s := S2x4x1152) ![1, 0, 0] S1x1x1152.size inb_S2x4x1152_S1x1x1152_1_0_0))⟩,
    ⟨Rect.unit (s := S2x1024x1152) ![0, 768, 0] S1x256x1152.size inb_S2x1024x1152_S1x256x1152_0_768_0, k0_pay6 (View.ld x5 (Rect.unit (s := S2x1024x1152) ![0, 768, 0] S1x256x1152.size inb_S2x1024x1152_S1x256x1152_0_768_0)) (View.ld x6 (Rect.unit (s := S2x4x1152) ![0, 3, 0] S1x1x1152.size inb_S2x4x1152_S1x1x1152_0_3_0))⟩,
    ⟨Rect.unit (s := S2x1024x1152) ![0, 512, 0] S1x256x1152.size inb_S2x1024x1152_S1x256x1152_0_512_0, k0_pay5 (k0_pay4 (View.ld x5 (Rect.unit (s := S2x1024x1152) ![0, 512, 0] S1x256x1152.size inb_S2x1024x1152_S1x256x1152_0_512_0)) (View.ld x6 (Rect.unit (s := S2x4x1152) ![0, 2, 0] S1x1x1152.size inb_S2x4x1152_S1x1x1152_0_2_0)))⟩,
    ⟨Rect.unit (s := S2x1024x1152) ![0, 256, 0] S1x256x1152.size inb_S2x1024x1152_S1x256x1152_0_256_0, k0_pay3 (View.ld x5 (Rect.unit (s := S2x1024x1152) ![0, 256, 0] S1x256x1152.size inb_S2x1024x1152_S1x256x1152_0_256_0)) (View.ld x6 (Rect.unit (s := S2x4x1152) ![0, 1, 0] S1x1x1152.size inb_S2x4x1152_S1x1x1152_0_1_0))⟩,
    ⟨Rect.unit (s := S2x1024x1152) ![0, 0, 0] S1x256x1152.size inb_S2x1024x1152_S1x256x1152_0_0_0, k0_pay2 (View.ld x5 (Rect.unit (s := S2x1024x1152) ![0, 0, 0] S1x256x1152.size inb_S2x1024x1152_S1x256x1152_0_0_0)) (View.ld x6 (Rect.unit (s := S2x4x1152) ![0, 0, 0] S1x1x1152.size inb_S2x4x1152_S1x1x1152_0_0_0))⟩]

/-- The first layer's gate weights, as stored. -/
def kG (x1 : Vec Ideal S2x4x1152 .f32) : Vec Ideal S128x1152 .bf16 := k0_pay17 (k0_pay13 (View.ld x1 (Rect.unit (s := S2x4x1152) ![0, 0, 0] S1x4x1152.size inb_S2x4x1152_S1x4x1152_0_0_0))) (k0_pay15 (View.ld x1 (Rect.unit (s := S2x4x1152) ![0, 0, 0] S1x4x1152.size inb_S2x4x1152_S1x4x1152_0_0_0))) (k0_pay16 (View.ld x1 (Rect.unit (s := S2x4x1152) ![0, 0, 0] S1x4x1152.size inb_S2x4x1152_S1x4x1152_0_0_0)))

/-- The first layer's gate weights, as the first point loads them back. -/
def kGl (x1 : Vec Ideal S2x4x1152 .f32) : Vec Ideal S128x1152 .bf16 := (View.ld (kG x1) (Rect.unit (s := S128x1152) ![0, 0] S128x1152.size inb_S128x1152_S128x1152_0_0))

end Cert.Proof
end
-- ==== Proof.OutA.lean ====
module
public import proofs.«01_k».proof.Proof.Gen.KernelIdeal.Frame
public import proofs.«01_k».proof.Proof.Spec
public import proofs.«01_k».proof.Proof.Block
public import proofs.«01_k».proof.Proof.Scr
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! What the first point writes. -/

/-- At the first grid point, the result block is the stated function of the operands' blocks and the scratch buffers. -/
theorem outA8 (c : Dev nD) (i : grid0.Coords) (arg1 : Memref sig .tc .vmem S512x1152 .bf16) (harg1 : arg1.IsWhole) (arg2 : Memref sig .tc .vmem S2x4x1152 .f32) (harg2 : arg2.IsWhole) (arg3 : Memref sig .tc .vmem S2x1152x1024 .fp8e4m3) (harg3 : arg3.IsWhole) (arg4 : Memref sig .tc .vmem S2x4x256 .f32) (harg4 : arg4.IsWhole) (arg5 : Memref sig .tc .vmem S2x4x256x256 .bf16) (harg5 : arg5.IsWhole) (arg6 : Memref sig .tc .vmem S2x1024x1152 .fp8e4m3) (harg6 : arg6.IsWhole) (arg7 : Memref sig .tc .vmem S2x4x1152 .f32) (harg7 : arg7.IsWhole) (arg8 : Memref sig .tc .vmem S2x4x1152 .f32) (harg8 : arg8.IsWhole) (arg9 : Memref sig .tc .vmem S512x1152 .bf16) (harg9 : arg9.IsWhole) (arg10 : Memref sig .tc .vmem S16x512 .f32) (harg10 : arg10.IsWhole) (arg11 : Memref sig .tc .vmem S512x1152 .fp8e4m3) (harg11 : arg11.IsWhole) (arg12 : Memref sig .tc .vmem S512x1152 .fp8e4m3) (harg12 : arg12.IsWhole) (arg13 : Memref sig .tc .vmem S2x1024x1152 .bf16) (harg13 : arg13.IsWhole) (arg14 : Memref sig .tc .vmem S128x1152 .bf16) (harg14 : arg14.IsWhole) (hc0 : cond0_0 i)
    (x0 : Vec Ideal S512x1152 .bf16) (x1 : Vec Ideal S2x4x1152 .f32) (x2 : Vec Ideal S2x1152x1024 .fp8e4m3) (x3 : Vec Ideal S2x4x256 .f32) (x4 : Vec Ideal S2x4x256x256 .bf16) (x5 : Vec Ideal S2x1024x1152 .fp8e4m3) (x6 : Vec Ideal S2x4x1152 .f32) (x7 : Vec Ideal S2x4x1152 .f32) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = kY x0 x1 x2 x3 x4 x7 (kWU x5 x6) (kGl x1) := by
  funext y
  frame_out [View.readCov_eq_canon']
  rfl

end Cert.Proof
end
-- ==== Proof.OutA2.lean ====
module
public import proofs.«01_k».proof.Proof.Gen.KernelIdeal.Frame
public import proofs.«01_k».proof.Proof.Spec
public import proofs.«01_k».proof.Proof.Block
public import proofs.«01_k».proof.Proof.Scr
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! What the first point writes. -/

/-- At the first grid point, the block of logits and scales is the stated function of the operands' blocks and the scratch buffers. -/
theorem outA9 (c : Dev nD) (i : grid0.Coords) (arg1 : Memref sig .tc .vmem S512x1152 .bf16) (harg1 : arg1.IsWhole) (arg2 : Memref sig .tc .vmem S2x4x1152 .f32) (harg2 : arg2.IsWhole) (arg3 : Memref sig .tc .vmem S2x1152x1024 .fp8e4m3) (harg3 : arg3.IsWhole) (arg4 : Memref sig .tc .vmem S2x4x256 .f32) (harg4 : arg4.IsWhole) (arg5 : Memref sig .tc .vmem S2x4x256x256 .bf16) (harg5 : arg5.IsWhole) (arg6 : Memref sig .tc .vmem S2x1024x1152 .fp8e4m3) (harg6 : arg6.IsWhole) (arg7 : Memref sig .tc .vmem S2x4x1152 .f32) (harg7 : arg7.IsWhole) (arg8 : Memref sig .tc .vmem S2x4x1152 .f32) (harg8 : arg8.IsWhole) (arg9 : Memref sig .tc .vmem S512x1152 .bf16) (harg9 : arg9.IsWhole) (arg10 : Memref sig .tc .vmem S16x512 .f32) (harg10 : arg10.IsWhole) (arg11 : Memref sig .tc .vmem S512x1152 .fp8e4m3) (harg11 : arg11.IsWhole) (arg12 : Memref sig .tc .vmem S512x1152 .fp8e4m3) (harg12 : arg12.IsWhole) (arg13 : Memref sig .tc .vmem S2x1024x1152 .bf16) (harg13 : arg13.IsWhole) (arg14 : Memref sig .tc .vmem S128x1152 .bf16) (harg14 : arg14.IsWhole) (hc0 : cond0_0 i)
    (x0 : Vec Ideal S512x1152 .bf16) (x1 : Vec Ideal S2x4x1152 .f32) (x2 : Vec Ideal S2x1152x1024 .fp8e4m3) (x3 : Vec Ideal S2x4x256 .f32) (x4 : Vec Ideal S2x4x256x256 .bf16) (x5 : Vec Ideal S2x1024x1152 .fp8e4m3) (x6 : Vec Ideal S2x4x1152 .f32) (x7 : Vec Ideal S2x4x1152 .f32) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = kMisc x0 x1 x2 x3 x4 x7 (kWU x5 x6) (kGl x1) := by
  funext y
  frame_out [View.readCov_eq_canon']
  rfl

end Cert.Proof
end
-- ==== Proof.OutA3.lean ====
module
public import proofs.«01_k».proof.Proof.Gen.KernelIdeal.Frame
public import proofs.«01_k».proof.Proof.Spec
public import proofs.«01_k».proof.Proof.Block
public import proofs.«01_k».proof.Proof.Scr
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! What the first point writes. -/

/-- At the first grid point, the first code block is the stated function of the operands' blocks and the scratch buffers. -/
theorem outA10 (c : Dev nD) (i : grid0.Coords) (arg1 : Memref sig .tc .vmem S512x1152 .bf16) (harg1 : arg1.IsWhole) (arg2 : Memref sig .tc .vmem S2x4x1152 .f32) (harg2 : arg2.IsWhole) (arg3 : Memref sig .tc .vmem S2x1152x1024 .fp8e4m3) (harg3 : arg3.IsWhole) (arg4 : Memref sig .tc .vmem S2x4x256 .f32) (harg4 : arg4.IsWhole) (arg5 : Memref sig .tc .vmem S2x4x256x256 .bf16) (harg5 : arg5.IsWhole) (arg6 : Memref sig .tc .vmem S2x1024x1152 .fp8e4m3) (harg6 : arg6.IsWhole) (arg7 : Memref sig .tc .vmem S2x4x1152 .f32) (harg7 : arg7.IsWhole) (arg8 : Memref sig .tc .vmem S2x4x1152 .f32) (harg8 : arg8.IsWhole) (arg9 : Memref sig .tc .vmem S512x1152 .bf16) (harg9 : arg9.IsWhole) (arg10 : Memref sig .tc .vmem S16x512 .f32) (harg10 : arg10.IsWhole) (arg11 : Memref sig .tc .vmem S512x1152 .fp8e4m3) (harg11 : arg11.IsWhole) (arg12 : Memref sig .tc .vmem S512x1152 .fp8e4m3) (harg12 : arg12.IsWhole) (arg13 : Memref sig .tc .vmem S2x1024x1152 .bf16) (harg13 : arg13.IsWhole) (arg14 : Memref sig .tc .vmem S128x1152 .bf16) (harg14 : arg14.IsWhole) (hc0 : cond0_0 i)
    (x0 : Vec Ideal S512x1152 .bf16) (x1 : Vec Ideal S2x4x1152 .f32) (x2 : Vec Ideal S2x1152x1024 .fp8e4m3) (x3 : Vec Ideal S2x4x256 .f32) (x4 : Vec Ideal S2x4x256x256 .bf16) (x5 : Vec Ideal S2x1024x1152 .fp8e4m3) (x6 : Vec Ideal S2x4x1152 .f32) (x7 : Vec Ideal S2x4x1152 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = kC0 x0 := by
  funext y
  frame_out [View.readCov_eq_canon']
  rfl

/-- At the first grid point, the second code block is the stated function of the operands' blocks and the scratch buffers. -/
theorem outA11 (c : Dev nD) (i : grid0.Coords) (arg1 : Memref sig .tc .vmem S512x1152 .bf16) (harg1 : arg1.IsWhole) (arg2 : Memref sig .tc .vmem S2x4x1152 .f32) (harg2 : arg2.IsWhole) (arg3 : Memref sig .tc .vmem S2x1152x1024 .fp8e4m3) (harg3 : arg3.IsWhole) (arg4 : Memref sig .tc .vmem S2x4x256 .f32) (harg4 : arg4.IsWhole) (arg5 : Memref sig .tc .vmem S2x4x256x256 .bf16) (harg5 : arg5.IsWhole) (arg6 : Memref sig .tc .vmem S2x1024x1152 .fp8e4m3) (harg6 : arg6.IsWhole) (arg7 : Memref sig .tc .vmem S2x4x1152 .f32) (harg7 : arg7.IsWhole) (arg8 : Memref sig .tc .vmem S2x4x1152 .f32) (harg8 : arg8.IsWhole) (arg9 : Memref sig .tc .vmem S512x1152 .bf16) (harg9 : arg9.IsWhole) (arg10 : Memref sig .tc .vmem S16x512 .f32) (harg10 : arg10.IsWhole) (arg11 : Memref sig .tc .vmem S512x1152 .fp8e4m3) (harg11 : arg11.IsWhole) (arg12 : Memref sig .tc .vmem S512x1152 .fp8e4m3) (harg12 : arg12.IsWhole) (arg13 : Memref sig .tc .vmem S2x1024x1152 .bf16) (harg13 : arg13.IsWhole) (arg14 : Memref sig .tc .vmem S128x1152 .bf16) (harg14 : arg14.IsWhole) (hc0 : cond0_0 i)
    (x0 : Vec Ideal S512x1152 .bf16) (x1 : Vec Ideal S2x4x1152 .f32) (x2 : Vec Ideal S2x1152x1024 .fp8e4m3) (x3 : Vec Ideal S2x4x256 .f32) (x4 : Vec Ideal S2x4x256x256 .bf16) (x5 : Vec Ideal S2x1024x1152 .fp8e4m3) (x6 : Vec Ideal S2x4x1152 .f32) (x7 : Vec Ideal S2x4x1152 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = kC1 x0 x2 x3 x4 x7 (kWU x5 x6) (kGl x1) := by
  funext y
  frame_out [View.readCov_eq_canon']
  rfl

end Cert.Proof
end
-- ==== Proof.OutA4.lean ====
module
public import proofs.«01_k».proof.Proof.Gen.KernelIdeal.Frame
public import proofs.«01_k».proof.Proof.Spec
public import proofs.«01_k».proof.Proof.Scr
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! What the first point leaves in the scratch buffers. -/

/-- At the first grid point, the first scratch buffer becomes the scaled last factors. -/
theorem outAs0 (c : Dev nD) (i : grid0.Coords) (arg1 : Memref sig .tc .vmem S512x1152 .bf16) (harg1 : arg1.IsWhole) (arg2 : Memref sig .tc .vmem S2x4x1152 .f32) (harg2 : arg2.IsWhole) (arg3 : Memref sig .tc .vmem S2x1152x1024 .fp8e4m3) (harg3 : arg3.IsWhole) (arg4 : Memref sig .tc .vmem S2x4x256 .f32) (harg4 : arg4.IsWhole) (arg5 : Memref sig .tc .vmem S2x4x256x256 .bf16) (harg5 : arg5.IsWhole) (arg6 : Memref sig .tc .vmem S2x1024x1152 .fp8e4m3) (harg6 : arg6.IsWhole) (arg7 : Memref sig .tc .vmem S2x4x1152 .f32) (harg7 : arg7.IsWhole) (arg8 : Memref sig .tc .vmem S2x4x1152 .f32) (harg8 : arg8.IsWhole) (arg9 : Memref sig .tc .vmem S512x1152 .bf16) (harg9 : arg9.IsWhole) (arg10 : Memref sig .tc .vmem S16x512 .f32) (harg10 : arg10.IsWhole) (arg11 : Memref sig .tc .vmem S512x1152 .fp8e4m3) (harg11 : arg11.IsWhole) (arg12 : Memref sig .tc .vmem S512x1152 .fp8e4m3) (harg12 : arg12.IsWhole) (arg13 : Memref sig .tc .vmem S2x1024x1152 .bf16) (harg13 : arg13.IsWhole) (arg14 : Memref sig .tc .vmem S128x1152 .bf16) (harg14 : arg14.IsWhole) (hc0 : cond0_0 i)
    (x0 : Vec Ideal S512x1152 .bf16) (x1 : Vec Ideal S2x4x1152 .f32) (x2 : Vec Ideal S2x1152x1024 .fp8e4m3) (x3 : Vec Ideal S2x4x256 .f32) (x4 : Vec Ideal S2x4x256x256 .bf16) (x5 : Vec Ideal S2x1024x1152 .fp8e4m3) (x6 : Vec Ideal S2x4x1152 .f32) (x7 : Vec Ideal S2x4x1152 .f32) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = kWU x5 x6 := by
  funext y
  unfold kWU
  frame_out

/-- At the first grid point, the second scratch buffer becomes the split gate weights. -/
theorem outAs1 (c : Dev nD) (i : grid0.Coords) (arg1 : Memref sig .tc .vmem S512x1152 .bf16) (harg1 : arg1.IsWhole) (arg2 : Memref sig .tc .vmem S2x4x1152 .f32) (harg2 : arg2.IsWhole) (arg3 : Memref sig .tc .vmem S2x1152x1024 .fp8e4m3) (harg3 : arg3.IsWhole) (arg4 : Memref sig .tc .vmem S2x4x256 .f32) (harg4 : arg4.IsWhole) (arg5 : Memref sig .tc .vmem S2x4x256x256 .bf16) (harg5 : arg5.IsWhole) (arg6 : Memref sig .tc .vmem S2x1024x1152 .fp8e4m3) (harg6 : arg6.IsWhole) (arg7 : Memref sig .tc .vmem S2x4x1152 .f32) (harg7 : arg7.IsWhole) (arg8 : Memref sig .tc .vmem S2x4x1152 .f32) (harg8 : arg8.IsWhole) (arg9 : Memref sig .tc .vmem S512x1152 .bf16) (harg9 : arg9.IsWhole) (arg10 : Memref sig .tc .vmem S16x512 .f32) (harg10 : arg10.IsWhole) (arg11 : Memref sig .tc .vmem S512x1152 .fp8e4m3) (harg11 : arg11.IsWhole) (arg12 : Memref sig .tc .vmem S512x1152 .fp8e4m3) (harg12 : arg12.IsWhole) (arg13 : Memref sig .tc .vmem S2x1024x1152 .bf16) (harg13 : arg13.IsWhole) (arg14 : Memref sig .tc .vmem S128x1152 .bf16) (harg14 : arg14.IsWhole) (hc0 : cond0_0 i)
    (x0 : Vec Ideal S512x1152 .bf16) (x1 : Vec Ideal S2x4x1152 .f32) (x2 : Vec Ideal S2x1152x1024 .fp8e4m3) (x3 : Vec Ideal S2x4x256 .f32) (x4 : Vec Ideal S2x4x256x256 .bf16) (x5 : Vec Ideal S2x1024x1152 .fp8e4m3) (x6 : Vec Ideal S2x4x1152 .f32) (x7 : Vec Ideal S2x4x1152 .f32) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = kG x1 := by
  funext y
  frame_out
  rfl

end Cert.Proof
end
-- ==== Proof.OutB.lean ====
module
public import proofs.«01_k».proof.Proof.Gen.KernelIdeal.Frame
public import proofs.«01_k».proof.Proof.Spec
public import proofs.«01_k».proof.Proof.Block
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! What a later point writes. -/

/-- At a later grid point, the result block is the stated function of the operands' blocks and the scratch buffers. -/
theorem outB8 (c : Dev nD) (i : grid0.Coords) (arg1 : Memref sig .tc .vmem S512x1152 .bf16) (harg1 : arg1.IsWhole) (arg2 : Memref sig .tc .vmem S2x4x1152 .f32) (harg2 : arg2.IsWhole) (arg3 : Memref sig .tc .vmem S2x1152x1024 .fp8e4m3) (harg3 : arg3.IsWhole) (arg4 : Memref sig .tc .vmem S2x4x256 .f32) (harg4 : arg4.IsWhole) (arg5 : Memref sig .tc .vmem S2x4x256x256 .bf16) (harg5 : arg5.IsWhole) (arg6 : Memref sig .tc .vmem S2x1024x1152 .fp8e4m3) (harg6 : arg6.IsWhole) (arg7 : Memref sig .tc .vmem S2x4x1152 .f32) (harg7 : arg7.IsWhole) (arg8 : Memref sig .tc .vmem S2x4x1152 .f32) (harg8 : arg8.IsWhole) (arg9 : Memref sig .tc .vmem S512x1152 .bf16) (harg9 : arg9.IsWhole) (arg10 : Memref sig .tc .vmem S16x512 .f32) (harg10 : arg10.IsWhole) (arg11 : Memref sig .tc .vmem S512x1152 .fp8e4m3) (harg11 : arg11.IsWhole) (arg12 : Memref sig .tc .vmem S512x1152 .fp8e4m3) (harg12 : arg12.IsWhole) (arg13 : Memref sig .tc .vmem S2x1024x1152 .bf16) (harg13 : arg13.IsWhole) (arg14 : Memref sig .tc .vmem S128x1152 .bf16) (harg14 : arg14.IsWhole) (hc0 : ¬cond0_0 i)
    (x0 : Vec Ideal S512x1152 .bf16) (x1 : Vec Ideal S2x4x1152 .f32) (x2 : Vec Ideal S2x1152x1024 .fp8e4m3) (x3 : Vec Ideal S2x4x256 .f32) (x4 : Vec Ideal S2x4x256x256 .bf16) (x5 : Vec Ideal S2x1024x1152 .fp8e4m3) (x6 : Vec Ideal S2x4x1152 .f32) (x7 : Vec Ideal S2x4x1152 .f32) (xs0 : Vec Ideal S2x1024x1152 .bf16) (xs1 : Vec Ideal S128x1152 .bf16) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 = kY x0 x1 x2 x3 x4 x7 xs0 xs1 := by
  funext y
  frame_out
  rfl

end Cert.Proof
end
-- ==== Proof.OutB2.lean ====
module
public import proofs.«01_k».proof.Proof.Gen.KernelIdeal.Frame
public import proofs.«01_k».proof.Proof.Spec
public import proofs.«01_k».proof.Proof.Block
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! What a later point writes. -/

/-- At a later grid point, the block of logits and scales is the stated function of the operands' blocks and the scratch buffers. -/
theorem outB9 (c : Dev nD) (i : grid0.Coords) (arg1 : Memref sig .tc .vmem S512x1152 .bf16) (harg1 : arg1.IsWhole) (arg2 : Memref sig .tc .vmem S2x4x1152 .f32) (harg2 : arg2.IsWhole) (arg3 : Memref sig .tc .vmem S2x1152x1024 .fp8e4m3) (harg3 : arg3.IsWhole) (arg4 : Memref sig .tc .vmem S2x4x256 .f32) (harg4 : arg4.IsWhole) (arg5 : Memref sig .tc .vmem S2x4x256x256 .bf16) (harg5 : arg5.IsWhole) (arg6 : Memref sig .tc .vmem S2x1024x1152 .fp8e4m3) (harg6 : arg6.IsWhole) (arg7 : Memref sig .tc .vmem S2x4x1152 .f32) (harg7 : arg7.IsWhole) (arg8 : Memref sig .tc .vmem S2x4x1152 .f32) (harg8 : arg8.IsWhole) (arg9 : Memref sig .tc .vmem S512x1152 .bf16) (harg9 : arg9.IsWhole) (arg10 : Memref sig .tc .vmem S16x512 .f32) (harg10 : arg10.IsWhole) (arg11 : Memref sig .tc .vmem S512x1152 .fp8e4m3) (harg11 : arg11.IsWhole) (arg12 : Memref sig .tc .vmem S512x1152 .fp8e4m3) (harg12 : arg12.IsWhole) (arg13 : Memref sig .tc .vmem S2x1024x1152 .bf16) (harg13 : arg13.IsWhole) (arg14 : Memref sig .tc .vmem S128x1152 .bf16) (harg14 : arg14.IsWhole) (hc0 : ¬cond0_0 i)
    (x0 : Vec Ideal S512x1152 .bf16) (x1 : Vec Ideal S2x4x1152 .f32) (x2 : Vec Ideal S2x1152x1024 .fp8e4m3) (x3 : Vec Ideal S2x4x256 .f32) (x4 : Vec Ideal S2x4x256x256 .bf16) (x5 : Vec Ideal S2x1024x1152 .fp8e4m3) (x6 : Vec Ideal S2x4x1152 .f32) (x7 : Vec Ideal S2x4x1152 .f32) (xs0 : Vec Ideal S2x1024x1152 .bf16) (xs1 : Vec Ideal S128x1152 .bf16) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 = kMisc x0 x1 x2 x3 x4 x7 xs0 xs1 := by
  funext y
  frame_out
  rfl

/-- At a later grid point, the first code block is the stated function of the operands' blocks and the scratch buffers. -/
theorem outB10 (c : Dev nD) (i : grid0.Coords) (arg1 : Memref sig .tc .vmem S512x1152 .bf16) (harg1 : arg1.IsWhole) (arg2 : Memref sig .tc .vmem S2x4x1152 .f32) (harg2 : arg2.IsWhole) (arg3 : Memref sig .tc .vmem S2x1152x1024 .fp8e4m3) (harg3 : arg3.IsWhole) (arg4 : Memref sig .tc .vmem S2x4x256 .f32) (harg4 : arg4.IsWhole) (arg5 : Memref sig .tc .vmem S2x4x256x256 .bf16) (harg5 : arg5.IsWhole) (arg6 : Memref sig .tc .vmem S2x1024x1152 .fp8e4m3) (harg6 : arg6.IsWhole) (arg7 : Memref sig .tc .vmem S2x4x1152 .f32) (harg7 : arg7.IsWhole) (arg8 : Memref sig .tc .vmem S2x4x1152 .f32) (harg8 : arg8.IsWhole) (arg9 : Memref sig .tc .vmem S512x1152 .bf16) (harg9 : arg9.IsWhole) (arg10 : Memref sig .tc .vmem S16x512 .f32) (harg10 : arg10.IsWhole) (arg11 : Memref sig .tc .vmem S512x1152 .fp8e4m3) (harg11 : arg11.IsWhole) (arg12 : Memref sig .tc .vmem S512x1152 .fp8e4m3) (harg12 : arg12.IsWhole) (arg13 : Memref sig .tc .vmem S2x1024x1152 .bf16) (harg13 : arg13.IsWhole) (arg14 : Memref sig .tc .vmem S128x1152 .bf16) (harg14 : arg14.IsWhole) (hc0 : ¬cond0_0 i)
    (x0 : Vec Ideal S512x1152 .bf16) (x1 : Vec Ideal S2x4x1152 .f32) (x2 : Vec Ideal S2x1152x1024 .fp8e4m3) (x3 : Vec Ideal S2x4x256 .f32) (x4 : Vec Ideal S2x4x256x256 .bf16) (x5 : Vec Ideal S2x1024x1152 .fp8e4m3) (x6 : Vec Ideal S2x4x1152 .f32) (x7 : Vec Ideal S2x4x1152 .f32) (xs0 : Vec Ideal S2x1024x1152 .bf16) (xs1 : Vec Ideal S128x1152 .bf16) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 = kC0 x0 := by
  funext y
  frame_out
  rfl

/-- At a later grid point, the second code block is the stated function of the operands' blocks and the scratch buffers. -/
theorem outB11 (c : Dev nD) (i : grid0.Coords) (arg1 : Memref sig .tc .vmem S512x1152 .bf16) (harg1 : arg1.IsWhole) (arg2 : Memref sig .tc .vmem S2x4x1152 .f32) (harg2 : arg2.IsWhole) (arg3 : Memref sig .tc .vmem S2x1152x1024 .fp8e4m3) (harg3 : arg3.IsWhole) (arg4 : Memref sig .tc .vmem S2x4x256 .f32) (harg4 : arg4.IsWhole) (arg5 : Memref sig .tc .vmem S2x4x256x256 .bf16) (harg5 : arg5.IsWhole) (arg6 : Memref sig .tc .vmem S2x1024x1152 .fp8e4m3) (harg6 : arg6.IsWhole) (arg7 : Memref sig .tc .vmem S2x4x1152 .f32) (harg7 : arg7.IsWhole) (arg8 : Memref sig .tc .vmem S2x4x1152 .f32) (harg8 : arg8.IsWhole) (arg9 : Memref sig .tc .vmem S512x1152 .bf16) (harg9 : arg9.IsWhole) (arg10 : Memref sig .tc .vmem S16x512 .f32) (harg10 : arg10.IsWhole) (arg11 : Memref sig .tc .vmem S512x1152 .fp8e4m3) (harg11 : arg11.IsWhole) (arg12 : Memref sig .tc .vmem S512x1152 .fp8e4m3) (harg12 : arg12.IsWhole) (arg13 : Memref sig .tc .vmem S2x1024x1152 .bf16) (harg13 : arg13.IsWhole) (arg14 : Memref sig .tc .vmem S128x1152 .bf16) (harg14 : arg14.IsWhole) (hc0 : ¬cond0_0 i)
    (x0 : Vec Ideal S512x1152 .bf16) (x1 : Vec Ideal S2x4x1152 .f32) (x2 : Vec Ideal S2x1152x1024 .fp8e4m3) (x3 : Vec Ideal S2x4x256 .f32) (x4 : Vec Ideal S2x4x256x256 .bf16) (x5 : Vec Ideal S2x1024x1152 .fp8e4m3) (x6 : Vec Ideal S2x4x1152 .f32) (x7 : Vec Ideal S2x4x1152 .f32) (xs0 : Vec Ideal S2x1024x1152 .bf16) (xs1 : Vec Ideal S128x1152 .bf16) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 = kC1 x0 x2 x3 x4 x7 xs0 xs1 := by
  funext y
  frame_out
  rfl

end Cert.Proof
end
-- ==== Proof.Gate.lean ====
module
public import proofs.«01_k».proof.Proof.Gen.KernelIdeal.Frame
public import proofs.«01_k».proof.Proof.Spec
public import proofs.«01_k».proof.Proof.Scr
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The first layer's gate weights, as stored: the weights' high parts, and zeros. -/

/-- The first four rows. -/
theorem pay17_low (a b c : FVec Ideal S4x1152 .bf16) (e : Fin 4) (k : Fin 1152) : k0_pay17 a b c (ix2 (⟨e.val, by omega⟩ : Fin 128) k) = a (ix2 e k) := by
  pointwise [k0_pay17]
  have he := e.isLt
  rw [dif_pos (by omega)]

/-- Four of the rows of the last tile: zeros. -/
theorem pay17_zero (a b c : FVec Ideal S4x1152 .bf16) (e : Fin 4) (q : Fin 128) (hq : q.val = 124 + e.val) (k : Fin 1152) : k0_pay17 a b c (ix2 q k) = 0 := by
  pointwise [k0_pay17]
  have he := e.isLt
  rw [dif_neg (by omega), dif_neg (by omega), dif_neg (by omega), dif_neg (by omega), dif_neg (by omega), dif_neg (by omega), dif_neg (by omega), dif_neg (by omega), dif_neg (by omega), dif_neg (by omega)]

/-- Four of the rows of the last tile: the third parts. -/
theorem pay17_lo (a b c : FVec Ideal S4x1152 .bf16) (e : Fin 4) (q : Fin 128) (hq : q.val = 120 + e.val) (k : Fin 1152) : k0_pay17 a b c (ix2 q k) = c (ix2 e k) := by
  pointwise [k0_pay17]
  have he := e.isLt
  rw [dif_neg (by omega), dif_neg (by omega), dif_neg (by omega), dif_neg (by omega), dif_neg (by omega), dif_neg (by omega), dif_neg (by omega), dif_neg (by omega), dif_neg (by omega), dif_pos (by omega)]
  exact congrArg (fun e => c (ix2 e k)) (Fin.ext (by dsimp only; omega))

/-- Four of the rows of the last tile: the second parts. -/
theorem pay17_mid (a b c : FVec Ideal S4x1152 .bf16) (e : Fin 4) (q : Fin 128) (hq : q.val = 116 + e.val) (k : Fin 1152) : k0_pay17 a b c (ix2 q k) = b (ix2 e k) := by
  pointwise [k0_pay17]
  have he := e.isLt
  rw [dif_neg (by omega), dif_neg (by omega), dif_neg (by omega), dif_neg (by omega), dif_neg (by omega), dif_neg (by omega), dif_neg (by omega), dif_neg (by omega), dif_pos (by omega)]
  exact congrArg (fun e => b (ix2 e k)) (Fin.ext (by dsimp only; omega))

/-- The first four rows are the weights. -/
theorem kG_low (x1 : Vec Ideal S2x4x1152 .f32) (e : Fin 4) (k : Fin 1152) : kG x1 (ix2 (⟨e.val, by omega⟩ : Fin 128) k) = x1 (ix3 0 e k) := by
  unfold kG
  rw [pay17_low]
  pointwise [k0_pay13, k0_pay12]

/-- The other rows that a logit reads are zeros. -/
theorem kG_zero (x1 : Vec Ideal S2x4x1152 .f32) (hf : ∀ (e : Fin 4) (k : Fin 1152), x1 (ix3 0 e k) - x1 (ix3 0 e k) = 0) (e : Fin 4) (q : Fin 128) (k : Fin 1152)
    (hq : q.val = 124 + e.val ∨ q.val = 120 + e.val ∨ q.val = 116 + e.val) : kG x1 (ix2 q k) = 0 := by
  unfold kG
  rcases hq with hq | hq | hq
  · exact pay17_zero _ _ _ e q hq k
  · rw [pay17_lo _ _ _ e q hq k]
    pointwise [k0_pay16, k0_pay15, k0_pay14, k0_pay13, k0_pay12]
    simp only [hf, sub_zero]
  · rw [pay17_mid _ _ _ e q hq k]
    pointwise [k0_pay15, k0_pay14, k0_pay13, k0_pay12]
    exact hf e k

/-- The same rows, loaded back at the first point. -/
theorem kGl_at (x1 : Vec Ideal S2x4x1152 .f32) (q : Fin 128) (k : Fin 1152) : kGl x1 (ix2 q k) = kG x1 (ix2 q k) := by
  pointwise [kGl]

end Cert.Proof
end
-- ==== Proof.WU.lean ====
module
public import proofs.«01_k».proof.Proof.Gen.KernelIdeal.Frame
public import proofs.«01_k».proof.Proof.Spec
public import proofs.«01_k».proof.Proof.Scr
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The scaled last factors, as stored. -/

/-- Each entry is the code times its expert's scale. -/
theorem kWU_eq (x5 : Vec Ideal S2x1024x1152 .fp8e4m3) (x6 : Vec Ideal S2x4x1152 .f32) (l : Fin 2) (q : Fin 1024) (d : Fin 1152) :
    kWU x5 x6 (ix3 l q d) = x5 (ix3 l q d) * x6 (ix3 l (⟨q.val / 256, by omega⟩ : Fin 4) d) := by
  unfold kWU
  canon_tiles x h
  all_goals idx_vars x
  all_goals pointwise [k0_pay2, k0_pay3, k0_pay4, k0_pay5, k0_pay6, k0_pay7, k0_pay8, k0_pay9, k0_pay10, k0_pay11, h0, h1, h2]
  all_goals refine congrArg₂ (· * ·) (congrArg x5 ?_) (congrArg x6 ?_)
  all_goals congr 1
  all_goals apply Fin.ext
  all_goals first | omega | (simp <;> omega)

end Cert.Proof
end
-- ==== Proof.KPt.lean ====
module
public import proofs.«01_k».proof.Proof.Gen.KernelIdeal.Frame
public import proofs.«01_k».proof.Proof.Spec
public import proofs.«01_k».proof.Proof.KBlk
public import proofs.«01_k».proof.Proof.OutA
public import proofs.«01_k».proof.Proof.OutA2
public import proofs.«01_k».proof.Proof.OutA3
public import proofs.«01_k».proof.Proof.OutA4
public import proofs.«01_k».proof.Proof.OutB
public import proofs.«01_k».proof.Proof.OutB2
public import proofs.«01_k».proof.Proof.Gate
public import proofs.«01_k».proof.Proof.WU
public import Idealize.ShloMosaic.Lib.Pipeline.ValueKit.Held
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! What the kernel's buffers hold after each grid point. -/

section
variable (m : (ℓ : Loc nD τ sig) → Buf (Elt Ideal) ℓ) (c : Dev nD)

/-- The scratch buffers' contents: the scaled factors, and the gate weights as one of the two cases writes or keeps them. -/
def Holds (xs0 : Vec Ideal S2x1024x1152 .bf16) (xs1 : Vec Ideal S128x1152 .bf16) : Prop :=
  xs0 = kWU (B5 m c) (B6 m c) ∧ ∀ (q : Fin 128) (k : Fin 1152), xs1 (ix2 q k) = kG (B1 m c) (ix2 q k)

/-- After every grid point the first scratch buffer holds the scaled last factors. -/
theorem scr0 (t : Fin cfg0.N) : (outsAt0 m c t.val t.isLt).2.2.2.2.1 = kWU (B5 m c) (B6 m c) := by
  refine Pipeline.eq_of_write_hold (fun n hn => (outsAt0 m c n hn).2.2.2.2.1) 120 (fun _ => kWU (B5 m c) (B6 m c)) ?_ ?_ t
  · intro t h0
    simp only [outsAt0_A m c t h0]
    rw [outAs0, b5_eq, b6_eq]
  · intro t h0
    simp only [outsAt0_B m c t h0]
    rfl

/-- After every grid point the second scratch buffer holds the split gate weights. -/
theorem scr1 (t : Fin cfg0.N) : (outsAt0 m c t.val t.isLt).2.2.2.2.2 = kG (B1 m c) := by
  refine Pipeline.eq_of_write_hold (fun n hn => (outsAt0 m c n hn).2.2.2.2.2) 120 (fun _ => kG (B1 m c)) ?_ ?_ t
  · intro t h0
    simp only [outsAt0_A m c t h0]
    rw [outAs1, b1_eq]
  · intro t h0
    simp only [outsAt0_B m c t h0]
    rfl

/-- At the first point the buffers are as that point writes them. -/
theorem holdsA : Holds m c (kWU (B5 m c) (B6 m c)) (kGl (B1 m c)) := ⟨rfl, kGl_at (B1 m c)⟩

/-- At a later point they are as the point before left them. -/
theorem holdsB (n : ℕ) (hn : n < cfg0.N) : Holds m c (outsAt0 m c n hn).2.2.2.2.1 (outsAt0 m c n hn).2.2.2.2.2 :=
  ⟨scr0 m c ⟨n, hn⟩, fun q k => congrFun (scr1 m c ⟨n, hn⟩) (ix2 q k)⟩

section
variable {xs0 : Vec Ideal S2x1024x1152 .bf16} {xs1 : Vec Ideal S128x1152 .bf16} (H : Holds m c xs0 xs1)
include H

/-- The first four rows of the second scratch buffer are the first layer's gate weights. -/
theorem Holds.low (e : Fin 4) (k : Fin 1152) : xs1 (ix2 (⟨e.val, by omega⟩ : Fin 128) k) = B1 m c (ix3 0 e k) :=
  (H.2 _ k).trans (kG_low (B1 m c) e k)

/-- With finite weights, the other rows that a logit reads are zeros. -/
theorem Holds.zero (hf : ∀ (e : Fin 4) (k : Fin 1152), B1 m c (ix3 0 e k) - B1 m c (ix3 0 e k) = 0) (e : Fin 4) (q : Fin 128) (k : Fin 1152)
    (hq : q.val = 124 + e.val ∨ q.val = 120 + e.val ∨ q.val = 116 + e.val) : xs1 (ix2 q k) = 0 :=
  (H.2 q k).trans (kG_zero (B1 m c) hf e q k hq)

/-- An entry of the first scratch buffer is a code of the last factor times its scale. -/
theorem Holds.wu (l : Fin 2) (e : Fin 4) (j : Fin 256) (d : Fin 1152) :
    xs0 (ix3 l (⟨256 * e.val + j.val, by omega⟩ : Fin 1024) d) = (KW m c).wu l e j d * (KW m c).wus l e d := by
  rw [H.1, kWU_eq]
  have he : (⟨(256 * e.val + j.val) / 256, by omega⟩ : Fin 4) = e := Fin.ext (by show (256 * e.val + j.val) / 256 = e.val; omega)
  rw [he]
  rfl

variable (hf : ∀ (e : Fin 4) (k : Fin 1152), B1 m c (ix3 0 e k) - B1 m c (ix3 0 e k) = 0) (t : Fin cfg0.N) (r : Fin 512)
include hf

/-- A row of the result block, from scratch buffers that hold what they should. -/
theorem gY (d : Fin 1152) : kY (b0 m c t) (B1 m c) (B2 m c) (B3 m c) (B4 m c) (B7 m c) xs0 xs1 (ix2 r d) = fin (KW m c) (KX m c (rowOf t r)) d := by
  rw [kY_at (b0 m c t) (B1 m c) (B2 m c) (B3 m c) (B4 m c) (B5 m c) (B6 m c) (B7 m c) xs0 xs1 r (H.low m c) (H.zero m c hf) (H.wu m c) d,
    funext (b0_at m c t r)]
  rfl

/-- A column of the block of logits and scales, from scratch buffers that hold what they should. -/
theorem gMisc (q : Fin 16) : kMisc (b0 m c t) (B1 m c) (B2 m c) (B3 m c) (B4 m c) (B7 m c) xs0 xs1 (ix2 q r) = miscOf (KW m c) (KX m c (rowOf t r)) q.val := by
  rw [kMisc_at (b0 m c t) (B1 m c) (B2 m c) (B3 m c) (B4 m c) (B5 m c) (B6 m c) (B7 m c) xs0 xs1 r (H.low m c) (H.zero m c hf) (H.wu m c) q,
    funext (b0_at m c t r)]
  rfl

/-- A row of the second layer's code block, from scratch buffers that hold what they should. -/
theorem gC1 (k : Fin 1152) : kC1 (b0 m c t) (B2 m c) (B3 m c) (B4 m c) (B7 m c) xs0 xs1 (ix2 r k) = codeOf (mid (KW m c) (KX m c (rowOf t r))) k := by
  rw [kC1_at (b0 m c t) (B1 m c) (B2 m c) (B3 m c) (B4 m c) (B5 m c) (B6 m c) (B7 m c) xs0 xs1 r (H.low m c) (H.zero m c hf) (H.wu m c) k,
    funext (b0_at m c t r)]
  rfl
end

/-- A row of the first layer's code block. -/
theorem gC0 (t : Fin cfg0.N) (r : Fin 512) (k : Fin 1152) : kC0 (b0 m c t) (ix2 r k) = codeOf (KX m c (rowOf t r)) k := by
  rw [kC0_at (b0 m c t) r k, funext (b0_at m c t r)]

section
variable (hf : ∀ (e : Fin 4) (k : Fin 1152), B1 m c (ix3 0 e k) - B1 m c (ix3 0 e k) = 0) (t : Fin cfg0.N)

include hf in
/-- After a grid point, a row of the result block is the input's row after both layers. -/
theorem pt8 (r : Fin 512) (d : Fin 1152) : (outsAt0 m c t.val t.isLt).1 (ix2 r d) = fin (KW m c) (KX m c (rowOf t r)) d := by
  by_cases h0 : t.val % 120 = 0
  · simp only [outsAt0_A m c t h0]
    rw [outA8, b1_eq, b2_eq, b3_eq, b4_eq, b7_eq, b5_eq, b6_eq]
    exact gY m c (holdsA m c) hf t r d
  · simp only [outsAt0_B m c t h0]
    rw [outB8, b1_eq, b2_eq, b3_eq, b4_eq, b7_eq]
    exact gY m c (holdsB m c _ _) hf t r d

include hf in
/-- After a grid point, a column of the block of logits and scales is that of the input's row. -/
theorem pt9 (r : Fin 512) (q : Fin 16) : (outsAt0 m c t.val t.isLt).2.1 (ix2 q r) = miscOf (KW m c) (KX m c (rowOf t r)) q.val := by
  by_cases h0 : t.val % 120 = 0
  · simp only [outsAt0_A m c t h0]
    rw [outA9, b1_eq, b2_eq, b3_eq, b4_eq, b7_eq, b5_eq, b6_eq]
    exact gMisc m c (holdsA m c) hf t r q
  · simp only [outsAt0_B m c t h0]
    rw [outB9, b1_eq, b2_eq, b3_eq, b4_eq, b7_eq]
    exact gMisc m c (holdsB m c _ _) hf t r q

/-- After a grid point, a row of the first code block holds the codes of the input's row. -/
theorem pt10 (r : Fin 512) (k : Fin 1152) : (outsAt0 m c t.val t.isLt).2.2.1 (ix2 r k) = codeOf (KX m c (rowOf t r)) k := by
  by_cases h0 : t.val % 120 = 0
  · simp only [outsAt0_A m c t h0]
    rw [outA10]
    exact gC0 m c t r k
  · simp only [outsAt0_B m c t h0]
    rw [outB10]
    exact gC0 m c t r k

include hf in
/-- After a grid point, a row of the second code block holds the codes of the row after the first layer. -/
theorem pt11 (r : Fin 512) (k : Fin 1152) : (outsAt0 m c t.val t.isLt).2.2.2.1 (ix2 r k) = codeOf (mid (KW m c) (KX m c (rowOf t r))) k := by
  by_cases h0 : t.val % 120 = 0
  · simp only [outsAt0_A m c t h0]
    rw [outA11, b2_eq, b3_eq, b4_eq, b7_eq, b1_eq, b5_eq, b6_eq]
    exact gC1 m c (holdsA m c) hf t r k
  · simp only [outsAt0_B m c t h0]
    rw [outB11, b2_eq, b3_eq, b4_eq, b7_eq]
    exact gC1 m c (holdsB m c _ _) hf t r k

end
end

end Cert.Proof
end
-- ==== Proof.KArr.lean ====
module
public import proofs.«01_k».proof.Proof.Gen.KernelIdeal.Frame
public import proofs.«01_k».proof.Proof.Spec
public import proofs.«01_k».proof.Proof.KPt
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The kernel's output arrays after its last grid point. -/

section
variable (m : (ℓ : Loc nD τ sig) → Buf (Elt Ideal) ℓ) (c : Dev nD)

variable (hf : ∀ (e : Fin 4) (k : Fin 1152), B1 m c (ix3 0 e k) - B1 m c (ix3 0 e k) = 0)
/-- The array of window 8. -/
def K8 : Vec Ideal S61440x1152 .bf16 := fun i => fin (KW m c) (KX m c (i 0)) (i 1)

include hf in
/-- After the last grid point, the kernel's array 8 holds the result rows. -/
theorem arr8 : (dats m 0 c).arrAt 8 (cfgs 0).N = K8 m c := by
  refine (dats m 0 c).arrAt_eq_of_covers 8 (K8 m c) (by decide +kernel) fun t hf' y => ?_
  blk_simp
  rw [after0_8]
  idx_vars y
  refine (pt8 m c hf t _ _).trans ?_
  show K8 m c (ix2 (rowOf t y0) y1) = _
  blk_ext [idx t, rowOf]

/-- The array of window 9. -/
def K9 : Vec Ideal S16x61440 .f32 := fun i => miscOf (KW m c) (KX m c (i 1)) (i 0).val

include hf in
/-- After the last grid point, the kernel's array 9 holds the logits and scales, transposed. -/
theorem arr9 : (dats m 0 c).arrAt 9 (cfgs 0).N = K9 m c := by
  refine (dats m 0 c).arrAt_eq_of_covers 9 (K9 m c) (by decide +kernel) fun t hf' y => ?_
  blk_simp
  rw [after0_9]
  idx_vars y
  refine (pt9 m c hf t _ _).trans ?_
  show K9 m c (ix2 y0 (rowOf t y1)) = _
  blk_ext [idx t, rowOf]

/-- The array of window 10. -/
def K10 : Vec Ideal S61440x1152 .fp8e4m3 := fun i => codeOf (KX m c (i 0)) (i 1)

/-- After the last grid point, the kernel's array 10 holds the first layer's codes. -/
theorem arr10 : (dats m 0 c).arrAt 10 (cfgs 0).N = K10 m c := by
  refine (dats m 0 c).arrAt_eq_of_covers 10 (K10 m c) (by decide +kernel) fun t hf' y => ?_
  blk_simp
  rw [after0_10]
  idx_vars y
  refine (pt10 m c t _ _).trans ?_
  show K10 m c (ix2 (rowOf t y0) y1) = _
  blk_ext [idx t, rowOf]

/-- The array of window 11. -/
def K11 : Vec Ideal S61440x1152 .fp8e4m3 := fun i => codeOf (mid (KW m c) (KX m c (i 0))) (i 1)

include hf in
/-- After the last grid point, the kernel's array 11 holds the second layer's codes. -/
theorem arr11 : (dats m 0 c).arrAt 11 (cfgs 0).N = K11 m c := by
  refine (dats m 0 c).arrAt_eq_of_covers 11 (K11 m c) (by decide +kernel) fun t hf' y => ?_
  blk_simp
  rw [after0_11]
  idx_vars y
  refine (pt11 m c hf t _ _).trans ?_
  show K11 m c (ix2 (rowOf t y0) y1) = _
  blk_ext [idx t, rowOf]

end

end Cert.Proof
end
-- ==== Proof.KRun.lean ====
module
public import proofs.«01_k».proof.Proof.Gen.KernelIdeal.Frame
public import proofs.«01_k».proof.Proof.Spec
public import proofs.«01_k».proof.Proof.KArr
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The kernel's results after its run. -/

open Idealize.SL.Sem

/-- The first four entries of a column of logits and scales are the first layer's logits. -/
theorem misc_low (W : Wts) (x : Fin 1152 → EReal) (q : ℕ) (h : q < 4) : miscOf W x q = lg W 0 x ⟨q, h⟩ := by
  rw [miscOf, if_neg (by omega), if_neg (by omega), if_neg (by omega), if_neg (by omega), if_neg (by omega), if_neg (by omega), dif_pos h]

/-- Entry 4 of a column of logits and scales is the second layer's first logit. -/
theorem misc_4 (W : Wts) (x : Fin 1152 → EReal) : miscOf W x 4 = lg W 1 (mid W x) 0 := by
  rw [miscOf, if_neg (by decide), if_neg (by decide), if_neg (by decide), if_neg (by decide), if_neg (by decide), if_pos rfl]

/-- Entry 5 of a column of logits and scales is the second layer's second logit. -/
theorem misc_5 (W : Wts) (x : Fin 1152 → EReal) : miscOf W x 5 = lg W 1 (mid W x) 1 := by
  rw [miscOf, if_neg (by decide), if_neg (by decide), if_neg (by decide), if_neg (by decide), if_pos rfl]

/-- Entry 6 of a column of logits and scales is the second layer's third logit. -/
theorem misc_6 (W : Wts) (x : Fin 1152 → EReal) : miscOf W x 6 = lg W 1 (mid W x) 2 := by
  rw [miscOf, if_neg (by decide), if_neg (by decide), if_neg (by decide), if_pos rfl]

/-- Entry 7 of a column of logits and scales is the second layer's fourth logit. -/
theorem misc_7 (W : Wts) (x : Fin 1152 → EReal) : miscOf W x 7 = lg W 1 (mid W x) 3 := by
  rw [miscOf, if_neg (by decide), if_neg (by decide), if_pos rfl]

/-- The first eight entries of a column of logits and scales are the logits of the two layers. -/
theorem misc_logits (W : Wts) (x : Fin 1152 → EReal) (l : Fin 2) (e : Fin 4) :
    miscOf W x (l.val * 4 + e.val) = if l.val = 0 then lg W 0 x e else lg W 1 (mid W x) e := by
  by_cases hl : l.val = 0
  · rw [if_pos hl, misc_low W x _ (by omega)]
    exact congrArg (lg W 0 x) (Fin.ext (by show l.val * 4 + e.val = e.val; omega))
  · have h1 : l.val * 4 = 4 := by omega
    rw [if_neg hl, h1]
    match e with
    | ⟨0, _⟩ => exact misc_4 W x
    | ⟨1, _⟩ => exact misc_5 W x
    | ⟨2, _⟩ => exact misc_6 W x
    | ⟨3, _⟩ => exact misc_7 W x

section
variable (m : (ℓ : Loc nD τ sig) → Buf (Elt Ideal) ℓ) (c : Dev nD)

variable (hf : ∀ (e : Fin 4) (k : Fin 1152), B1 m c (ix3 0 e k) - B1 m c (ix3 0 e k) = 0)
/-- An input row. -/
def KR (a : Fin 48) (b : Fin 1280) : Fin 1152 → EReal := KX m c (⟨a.val * 1280 + b.val, by omega⟩ : Fin 61440)

/-- The host line's result `main_v8`, over what the line starts from. -/
theorem line8 (Z : Valuation τ sig (Elt Ideal)) : StableHlo.after hostOps1 Z (Proc.devRef .tc main_v8) = (shapeCast S48x1280x1152 (Z (Proc.devRef .tc main_v4_0) : Vec Ideal S61440x1152 .bf16) shapeCasts_S61440x1152_S48x1280x1152 : Vec Ideal S48x1280x1152 .bf16) := by
  after_results
  rfl

/-- The result `main_v8`. -/
def O8 : Vec Ideal S48x1280x1152 .bf16 := shapeCast S48x1280x1152 (K8 m c) shapeCasts_S61440x1152_S48x1280x1152

include hf in
/-- The kernel's host code after the call leaves the result as stated. -/
theorem tail8 : Pipeline.afterTail₀ cfgs (dats m) 0 (V0 m) [hostOps1] c main_v8 = O8 m c := by
  unfold Pipeline.afterTail₀
  refine (line8 _).trans ?_
  unfold O8
  have h8 := (Pipeline.withArrays_arr spec0 launch0.win.arr_inj c (V0 m c) (fun w => (dats m 0 c).arrAt w (cfgs 0).N) 8).trans (arr8 m c hf)
  change Pipeline.withArrays spec0 c (V0 m c) (fun w => (dats m 0 c).arrAt w (cfgs 0).N) (Proc.devRef .tc main_v4_0) = _ at h8
  erw [h8]

/-- An entry of the kernel's result: the input's row after both layers. -/
theorem O8_at (a : Fin 48) (b : Fin 1280) (k : Fin 1152) : O8 m c (ix3 a b k) = fin (KW m c) (KR m c a b) k := by
  unfold O8
  pointwise []
  rfl

/-- The host line's result `main_v7`, over what the line starts from. -/
theorem line7 (Z : Valuation τ sig (Elt Ideal)) : StableHlo.after hostOps1 Z (Proc.devRef .tc main_v7) = (shapeCast S48x1280x2x4 (transpose S61440x8 [1, 0] (extractStridedSlice S8x61440 ![0, 0] (Z (Proc.devRef .tc main_v4_1) : Vec Ideal S16x61440 .f32) slices_S16x61440_S8x61440_0_0) transposes_S8x61440_S61440x8_1_0) shapeCasts_S61440x8_S48x1280x2x4 : Vec Ideal S48x1280x2x4 .f32) := by
  after_results
  rfl

/-- The result `main_v7`. -/
def O7 : Vec Ideal S48x1280x2x4 .f32 := shapeCast S48x1280x2x4 (transpose S61440x8 [1, 0] (extractStridedSlice S8x61440 ![0, 0] (K9 m c) slices_S16x61440_S8x61440_0_0) transposes_S8x61440_S61440x8_1_0) shapeCasts_S61440x8_S48x1280x2x4

include hf in
/-- The kernel's host code after the call leaves the gate logits as stated. -/
theorem tail7 : Pipeline.afterTail₀ cfgs (dats m) 0 (V0 m) [hostOps1] c main_v7 = O7 m c := by
  unfold Pipeline.afterTail₀
  refine (line7 _).trans ?_
  unfold O7
  have h9 := (Pipeline.withArrays_arr spec0 launch0.win.arr_inj c (V0 m c) (fun w => (dats m 0 c).arrAt w (cfgs 0).N) 9).trans (arr9 m c hf)
  change Pipeline.withArrays spec0 c (V0 m c) (fun w => (dats m 0 c).arrAt w (cfgs 0).N) (Proc.devRef .tc main_v4_1) = _ at h9
  erw [h9]

/-- An entry of the kernel's gate logits: the gate logit of its layer and expert. -/
theorem O7_at (a : Fin 48) (b : Fin 1280) (l : Fin 2) (e : Fin 4) : O7 m c (ix4 a b l e) = (if l.val = 0 then lg (KW m c) 0 (KR m c a b) e else lg (KW m c) 1 (mid (KW m c) (KR m c a b)) e) := by
  unfold O7
  pointwise []
  exact misc_logits _ _ l e

/-- The host line's result `main_v9`, over what the line starts from. -/
theorem line9 (Z : Valuation τ sig (Elt Ideal)) : StableHlo.after hostOps1 Z (Proc.devRef .tc main_v9) = (shapeCast S48x1280x1152 (Z (Proc.devRef .tc main_v4_2) : Vec Ideal S61440x1152 .fp8e4m3) shapeCasts_S61440x1152_S48x1280x1152 : Vec Ideal S48x1280x1152 .fp8e4m3) := by
  after_results
  rfl

/-- The result `main_v9`. -/
def O9 : Vec Ideal S48x1280x1152 .fp8e4m3 := shapeCast S48x1280x1152 (K10 m c) shapeCasts_S61440x1152_S48x1280x1152

/-- The kernel's host code after the call leaves the first layer's codes as stated. -/
theorem tail9 : Pipeline.afterTail₀ cfgs (dats m) 0 (V0 m) [hostOps1] c main_v9 = O9 m c := by
  unfold Pipeline.afterTail₀
  refine (line9 _).trans ?_
  unfold O9
  have h10 := (Pipeline.withArrays_arr spec0 launch0.win.arr_inj c (V0 m c) (fun w => (dats m 0 c).arrAt w (cfgs 0).N) 10).trans (arr10 m c)
  change Pipeline.withArrays spec0 c (V0 m c) (fun w => (dats m 0 c).arrAt w (cfgs 0).N) (Proc.devRef .tc main_v4_2) = _ at h10
  erw [h10]

/-- An entry of the kernel's first layer's codes: the code of the input's row. -/
theorem O9_at (a : Fin 48) (b : Fin 1280) (k : Fin 1152) : O9 m c (ix3 a b k) = codeOf (KR m c a b) k := by
  unfold O9
  pointwise []
  rfl

/-- The host line's result `main_v12`, over what the line starts from. -/
theorem line12 (Z : Valuation τ sig (Elt Ideal)) : StableHlo.after hostOps1 Z (Proc.devRef .tc main_v12) = (shapeCast S48x1280 (shapeCast S61440 (extractStridedSlice S1x61440 ![8, 0] (Z (Proc.devRef .tc main_v4_1) : Vec Ideal S16x61440 .f32) slices_S16x61440_S1x61440_8_0) shapeCasts_S1x61440_S61440) shapeCasts_S61440_S48x1280 : Vec Ideal S48x1280 .f32) := by
  after_results
  rfl

/-- The result `main_v12`. -/
def O12 : Vec Ideal S48x1280 .f32 := shapeCast S48x1280 (shapeCast S61440 (extractStridedSlice S1x61440 ![8, 0] (K9 m c) slices_S16x61440_S1x61440_8_0) shapeCasts_S1x61440_S61440) shapeCasts_S61440_S48x1280

include hf in
/-- The kernel's host code after the call leaves the first layer's scales as stated. -/
theorem tail12 : Pipeline.afterTail₀ cfgs (dats m) 0 (V0 m) [hostOps1] c main_v12 = O12 m c := by
  unfold Pipeline.afterTail₀
  refine (line12 _).trans ?_
  unfold O12
  have h9 := (Pipeline.withArrays_arr spec0 launch0.win.arr_inj c (V0 m c) (fun w => (dats m 0 c).arrAt w (cfgs 0).N) 9).trans (arr9 m c hf)
  change Pipeline.withArrays spec0 c (V0 m c) (fun w => (dats m 0 c).arrAt w (cfgs 0).N) (Proc.devRef .tc main_v4_1) = _ at h9
  erw [h9]

/-- An entry of the kernel's first layer's scales: the scale of the input's row. -/
theorem O12_at (a : Fin 48) (b : Fin 1280)  : O12 m c (ix2 a b) = sOf (KR m c a b) := by
  unfold O12
  pointwise []
  rfl

/-- The host line's result `main_v13`, over what the line starts from. -/
theorem line13 (Z : Valuation τ sig (Elt Ideal)) : StableHlo.after hostOps1 Z (Proc.devRef .tc main_v13) = (shapeCast S48x1280x1152 (Z (Proc.devRef .tc main_v4_3) : Vec Ideal S61440x1152 .fp8e4m3) shapeCasts_S61440x1152_S48x1280x1152 : Vec Ideal S48x1280x1152 .fp8e4m3) := by
  after_results
  rfl

/-- The result `main_v13`. -/
def O13 : Vec Ideal S48x1280x1152 .fp8e4m3 := shapeCast S48x1280x1152 (K11 m c) shapeCasts_S61440x1152_S48x1280x1152

include hf in
/-- The kernel's host code after the call leaves the second layer's codes as stated. -/
theorem tail13 : Pipeline.afterTail₀ cfgs (dats m) 0 (V0 m) [hostOps1] c main_v13 = O13 m c := by
  unfold Pipeline.afterTail₀
  refine (line13 _).trans ?_
  unfold O13
  have h11 := (Pipeline.withArrays_arr spec0 launch0.win.arr_inj c (V0 m c) (fun w => (dats m 0 c).arrAt w (cfgs 0).N) 11).trans (arr11 m c hf)
  change Pipeline.withArrays spec0 c (V0 m c) (fun w => (dats m 0 c).arrAt w (cfgs 0).N) (Proc.devRef .tc main_v4_3) = _ at h11
  erw [h11]

/-- An entry of the kernel's second layer's codes: the code of the row after the first layer. -/
theorem O13_at (a : Fin 48) (b : Fin 1280) (k : Fin 1152) : O13 m c (ix3 a b k) = codeOf (mid (KW m c) (KR m c a b)) k := by
  unfold O13
  pointwise []
  rfl

/-- The host line's result `main_v16`, over what the line starts from. -/
theorem line16 (Z : Valuation τ sig (Elt Ideal)) : StableHlo.after hostOps1 Z (Proc.devRef .tc main_v16) = (shapeCast S48x1280 (shapeCast S61440 (extractStridedSlice S1x61440 ![9, 0] (Z (Proc.devRef .tc main_v4_1) : Vec Ideal S16x61440 .f32) slices_S16x61440_S1x61440_9_0) shapeCasts_S1x61440_S61440) shapeCasts_S61440_S48x1280 : Vec Ideal S48x1280 .f32) := by
  after_results
  rfl

/-- The result `main_v16`. -/
def O16 : Vec Ideal S48x1280 .f32 := shapeCast S48x1280 (shapeCast S61440 (extractStridedSlice S1x61440 ![9, 0] (K9 m c) slices_S16x61440_S1x61440_9_0) shapeCasts_S1x61440_S61440) shapeCasts_S61440_S48x1280

include hf in
/-- The kernel's host code after the call leaves the second layer's scales as stated. -/
theorem tail16 : Pipeline.afterTail₀ cfgs (dats m) 0 (V0 m) [hostOps1] c main_v16 = O16 m c := by
  unfold Pipeline.afterTail₀
  refine (line16 _).trans ?_
  unfold O16
  have h9 := (Pipeline.withArrays_arr spec0 launch0.win.arr_inj c (V0 m c) (fun w => (dats m 0 c).arrAt w (cfgs 0).N) 9).trans (arr9 m c hf)
  change Pipeline.withArrays spec0 c (V0 m c) (fun w => (dats m 0 c).arrAt w (cfgs 0).N) (Proc.devRef .tc main_v4_1) = _ at h9
  erw [h9]

/-- An entry of the kernel's second layer's scales: the scale of the row after the first layer. -/
theorem O16_at (a : Fin 48) (b : Fin 1280)  : O16 m c (ix2 a b) = sOf (mid (KW m c) (KR m c a b)) := by
  unfold O16
  pointwise []
  rfl

end

/-- After every run the six results hold the values above and the arguments are as they were. -/
theorem run (m : (ℓ : Loc nD τ sig) → Buf (Elt Ideal) ℓ) (ρ : Dev nD → PrngReg) (hf : ∀ (c : Dev nD) (e : Fin 4) (k : Fin 1152), B1 m c (ix3 0 e k) - B1 m c (ix3 0 e k) = 0) :
    θ_run (defs (F := Ideal)) (onTc (τ := τ) (main (F := Ideal))) ⟨m, fun _ => 0, ρ⟩ (fun r => ∀ c : Dev nD,
      r.2.mem ((c.tc : Thread nD τ).loc main_v8) = O8 m c ∧ r.2.mem ((c.tc : Thread nD τ).loc main_v7) = O7 m c ∧ r.2.mem ((c.tc : Thread nD τ).loc main_v9) = O9 m c ∧ r.2.mem ((c.tc : Thread nD τ).loc main_v12) = O12 m c ∧ r.2.mem ((c.tc : Thread nD τ).loc main_v13) = O13 m c ∧ r.2.mem ((c.tc : Thread nD τ).loc main_v16) = O16 m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  (θ_run defs _ _).mono (fun _ h c => ⟨((h.1 c).2 main_v8 (Pipeline.mem_restRefs_of main_v8 (by decide) (by decide))).trans (tail8 m c (hf c)), ((h.1 c).2 main_v7 (Pipeline.mem_restRefs_of main_v7 (by decide) (by decide))).trans (tail7 m c (hf c)), ((h.1 c).2 main_v9 (Pipeline.mem_restRefs_of main_v9 (by decide) (by decide))).trans (tail9 m c), ((h.1 c).2 main_v12 (Pipeline.mem_restRefs_of main_v12 (by decide) (by decide))).trans (tail12 m c (hf c)), ((h.1 c).2 main_v13 (Pipeline.mem_restRefs_of main_v13 (by decide) (by decide))).trans (tail13 m c (hf c)), ((h.1 c).2 main_v16 (Pipeline.mem_restRefs_of main_v16 (by decide) (by decide))).trans (tail16 m c (hf c)), h.2 c⟩)
    (θ_run_and (run_main m ρ) (unchanged m ρ))

end Cert.Proof
end
-- ==== Proof.RefA.lean ====
module
public import proofs.«01_k».proof.Proof.Gen.ReferenceIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's values at an index: rows, logits, the softmax. -/

/-- The input, cast: its entries are unchanged. -/
theorem pay2_at (x : Vec Ideal S61440x1152 .bf16) (r : Fin 61440) (k : Fin 1152) : k0_pay2 x (ix2 r k) = x (ix2 r k) := by
  pointwise [k0_pay2]

/-- The largest of four, taken one after another from the bottom, is the largest taken in pairs. -/
theorem fold4 (f : Fin 4 → EReal) : max ⊥ (Finset.fold max ⊥ f Finset.univ) = gmax f := by
  rw [max_eq_right bot_le, gmax]
  have h : (Finset.univ : Finset (Fin 4)) = {0, 1, 2, 3} := rfl
  rw [h, Finset.fold_insert (by decide), Finset.fold_insert (by decide), Finset.fold_insert (by decide), Finset.fold_singleton,
    max_eq_left (bot_le : ⊥ ≤ f 3), max_assoc]

/-- The softmax as the reference computes it is the softmax of the row's mathematics. -/
theorem gate_of (f : Fin 4 → EReal) (e : Fin 4) :
    Ideal.div (Ideal.exp (f e - max (Ideal.ofBits .f32 4286578688#32) (Finset.fold max (Ideal.ofBits .f32 4286578688#32) f Finset.univ)))
      (∑ x, Ideal.exp (f x - max (Ideal.ofBits .f32 4286578688#32) (Finset.fold max (Ideal.ofBits .f32 4286578688#32) f Finset.univ))) = gate f e := by
  rw [show (Ideal.ofBits .f32 4286578688#32 : EReal) = ⊥ from bot_f32, fold4, Fin.sum_univ_four, gate, add_assoc (_ + _)]

/-- The reference's softmax of a row of logits. -/
theorem pay7_at (v : FVec Ideal S61440x4 .f32) (r : Fin 61440) (e : Fin 4) : k0_pay7 v (ix2 r e) = gate (fun e => v (ix2 r e)) e := by
  pointwise [k0_pay7]
  exact gate_of (fun e => v (ix2 r e)) e

/-- The first layer's gate logits. -/
theorem pay6_at (x : Vec Ideal S61440x1152 .bf16) (w : Vec Ideal S1x1152x4 .f32) (r : Fin 61440) (e : Fin 4) :
    k0_pay6 x w (ix2 r e) = ∑ k, x (ix2 r k) * w (ix3 0 k e) := by
  pointwise [k0_pay6, k0_pay2]

/-- The second layer's gate logits. -/
theorem pay32_at (x : FVec Ideal S61440x1152 .f32) (w : Vec Ideal S1x1152x4 .f32) (r : Fin 61440) (e : Fin 4) :
    k0_pay32 x w (ix2 r e) = ∑ k, x (ix2 r k) * w (ix3 0 k e) := by
  pointwise [k0_pay32]

/-- The second layer's gates are the softmax of its logits. -/
theorem pay33_eq (x : FVec Ideal S61440x1152 .f32) (w : Vec Ideal S1x1152x4 .f32) : k0_pay33 x w = k0_pay7 (k0_pay32 x w) := by
  delta k0_pay33 k0_pay7
  with_reducible rfl

/-- The first layer's first gate, as a column. -/
theorem pay9_at (v : FVec Ideal S61440x4 .f32) (r : Fin 61440) : k0_pay9 v (ix2 r 0) = k0_pay7 v (ix2 r 0) := by
  pointwise [k0_pay9]
/-- The first layer's second gate, as a column. -/
theorem pay13_at (v : FVec Ideal S61440x4 .f32) (r : Fin 61440) : k0_pay13 v (ix2 r 0) = v (ix2 r 1) := by
  pointwise [k0_pay13] <;> rfl
/-- The first layer's third gate, as a column. -/
theorem pay17_at (v : FVec Ideal S61440x4 .f32) (r : Fin 61440) : k0_pay17 v (ix2 r 0) = v (ix2 r 2) := by
  pointwise [k0_pay17] <;> rfl
/-- The first layer's fourth gate, as a column. -/
theorem pay22_at (v : FVec Ideal S61440x4 .f32) (r : Fin 61440) : k0_pay22 v (ix2 r 0) = v (ix2 r 3) := by
  pointwise [k0_pay22] <;> rfl
/-- The second layer's first gate, as a column. -/
theorem pay35_at (x : FVec Ideal S61440x1152 .f32) (w : Vec Ideal S1x1152x4 .f32) (r : Fin 61440) : k0_pay35 x w (ix2 r 0) = k0_pay33 x w (ix2 r 0) := by
  pointwise [k0_pay35]
/-- The second layer's second gate, as a column. -/
theorem pay40_at (v : FVec Ideal S61440x4 .f32) (r : Fin 61440) : k0_pay40 v (ix2 r 0) = v (ix2 r 1) := by
  pointwise [k0_pay40] <;> rfl
/-- The second layer's third gate, as a column. -/
theorem pay45_at (v : FVec Ideal S61440x4 .f32) (r : Fin 61440) : k0_pay45 v (ix2 r 0) = v (ix2 r 2) := by
  pointwise [k0_pay45] <;> rfl
/-- The second layer's fourth gate, as a column. -/
theorem pay51_at (v : FVec Ideal S61440x4 .f32) (r : Fin 61440) : k0_pay51 v (ix2 r 0) = v (ix2 r 3) := by
  pointwise [k0_pay51] <;> rfl

end Cert.Proof.Ref
end
-- ==== Proof.RefMax.lean ====
module
public import proofs.«01_k».proof.Proof.Gen.ReferenceIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's scaled row maximum. -/

/-- The row maximum of a vector. -/
def maxV (w : FVec Ideal S61440x1152 .f32) : FVec Ideal S61440 .f32 :=
  multiReduction .maximumf [1] S61440 w 0xFF800000#32 reduces_S61440x1152_S61440 (.inl rfl) rfl

/-- The maximum over a row, as the reference takes it. -/
theorem maxV_read (w : FVec Ideal S61440x1152 .f32) (r : Fin 61440) :
    maxV w (ix1 r) = Finset.univ.fold max (Ideal.ofBits .f32 0xFF800000#32) fun k : Fin 1152 => w (ix2 r k) := by
  pointwise [maxV]

/-- The maximum over a row, started from the bottom. -/
theorem maxV_at (w : FVec Ideal S61440x1152 .f32) (r : Fin 61440) :
    maxV w (ix1 r) = Finset.univ.fold max ⊥ fun k : Fin 1152 => w (ix2 r k) := by
  rw [maxV_read, show (Ideal.ofBits .f32 0xFF800000#32 : EReal) = ⊥ from bot_f32]

/-- A column scaled by the row factor. -/
def colV (w : FVec Ideal S61440 .f32) : FVec Ideal S61440x1 .f32 :=
  mulf (shapeCast S61440x1 w shapeCasts_S61440_S61440x1) (broadcast S61440x1 (Scalar.ofBits .f32 0x3B124925#32))

/-- The row maxima as a column, over the largest code. -/
theorem colV_at (w : FVec Ideal S61440 .f32) (r : Fin 61440) : colV w (ix2 r 0) = w (ix1 r) * Ideal.ofBits .f32 991054117#32 := by
  pointwise [colV]

/-- The scaled row maximum. -/
def rmax (v : FVec Ideal S61440x1152 .f32) : FVec Ideal S61440x1 .f32 := colV (maxV (absf v))

/-- The reference's scaled row maximum is that of the row's mathematics. -/
theorem rmax_at (v : FVec Ideal S61440x1152 .f32) (r : Fin 61440) : rmax v (ix2 r 0) = scaled fun k => v (ix2 r k) := by
  rw [rmax, colV_at, maxV_at, scaled, rowMax]
  have : (fun k => absf v (ix2 r k)) = fun k => max (v (ix2 r k)) (-(v (ix2 r k))) := by
    funext k
    rfl
  rw [this]

end Cert.Proof.Ref
end
-- ==== Proof.RefExp.lean ====
module
public import proofs.«01_k».proof.Proof.Gen.ReferenceIdeal.Frame
public import proofs.«01_k».proof.Proof.Spec
public import proofs.«01_k».proof.Proof.RefMax
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's exponent of a row's scale. -/

/-- The exponent, from the scaled row maximum. -/
def expoV (y : FVec Ideal S61440x1 .f32) : FVec Ideal S61440x1 .f32 :=
  select (cmpf .oeq (F := Ideal) (φ := .f32) (shapeCast S61440x1 (multiReduction .add [1] S61440 (select (cmpf .oge (F := Ideal) (φ := .f32) (broadcastTo S61440x252 y broadcasts_S61440x1_S61440x252)
      (broadcastTo S61440x252 (exp2 (F := Ideal) (φ := .f32) (subf (sitofp (F := Ideal) .f32 (iota .tc S1x252 32 [1] iota_S1x252_d1_w32)) (broadcast S1x252 (Scalar.ofBits (F := Ideal) .f32 0x42FC0000#32)))) broadcasts_S1x252_S61440x252))
      (broadcast S61440x252 (Scalar.ofBits (F := Ideal) .f32 0x3F800000#32)) (broadcast S61440x252 (Scalar.ofBits (F := Ideal) .f32 0x00000000#32))) 0x00000000#32 reduces_S61440x252_S61440 (.inl rfl) rfl)
      shapeCasts_S61440_S61440x1) (broadcast S61440x1 (Scalar.ofBits (F := Ideal) .f32 0x00000000#32)))
    (broadcast S61440x1 (Scalar.ofBits (F := Ideal) .f32 0x00000000#32))
    (subf (shapeCast S61440x1 (multiReduction .add [1] S61440 (select (cmpf .oge (F := Ideal) (φ := .f32) (broadcastTo S61440x252 y broadcasts_S61440x1_S61440x252)
      (broadcastTo S61440x252 (exp2 (F := Ideal) (φ := .f32) (subf (sitofp (F := Ideal) .f32 (iota .tc S1x252 32 [1] iota_S1x252_d1_w32)) (broadcast S1x252 (Scalar.ofBits (F := Ideal) .f32 0x42FC0000#32)))) broadcasts_S1x252_S61440x252))
      (broadcast S61440x252 (Scalar.ofBits (F := Ideal) .f32 0x3F800000#32)) (broadcast S61440x252 (Scalar.ofBits (F := Ideal) .f32 0x00000000#32))) 0x00000000#32 reduces_S61440x252_S61440 (.inl rfl) rfl)
      shapeCasts_S61440_S61440x1) (broadcast S61440x1 (Scalar.ofBits (F := Ideal) .f32 0x42FC0000#32)))

/-- The first layer's exponents are those of the scaled row maxima of the input. -/
theorem pay3_eq (x : Vec Ideal S61440x1152 .bf16) : k0_pay3 x = expoV (rmax (k0_pay2 x)) := by
  delta k0_pay3 expoV rmax colV maxV
  with_reducible rfl

/-- The second layer's exponents are those of the scaled row maxima after the first layer. -/
theorem pay27_eq (a b c d e f : FVec Ideal S61440x1152 .f32) : k0_pay27 a b c d e f = expoV (rmax (k0_pay26 a b c d e f)) := by
  delta k0_pay27 expoV rmax colV maxV
  with_reducible rfl

/-- The word 126.0 denotes 126. -/
theorem bias_word : Ideal.ofBits .f32 1123811328#32 = ((126 : ℝ) : EReal) := by
  simp [Ideal.ofBits, Ideal.ieee, -EReal.coe_mul]
  norm_num

/-- A lane's number, read as a signed word, is that number. -/
theorem lane_toInt : ∀ i : Fin 252, (BitVec.ofNat 32 i.val).toInt = i.val := by decide +kernel

/-- The power of two in a lane. -/
theorem lane_rung (i : Fin 252) :
    FloatOps.exp2 (FloatOps.sitofp .f32 (BitVec.ofNat 32 i.val) - Ideal.ofBits .f32 1123811328#32 : Ideal .f32) = rung i.val := by
  have h : (FloatOps.sitofp .f32 (BitVec.ofNat 32 i.val) : Ideal .f32) = (((i.val : ℤ) : ℝ) : EReal) := by
    show ((((BitVec.ofNat 32 i.val).toInt : ℝ)) : EReal) = _
    rw [lane_toInt]
  rw [h, bias_word]
  show Ideal.exp2 _ = _
  rw [← EReal.coe_sub, Ideal.exp2_coe]
  unfold rung
  rw [← Real.rpow_intCast]
  push_cast
  rfl

/-- The number of powers reached. -/
theorem count_reached (y : EReal) :
    (∑ x : Fin 252, if FloatOps.exp2 (FloatOps.sitofp .f32 (BitVec.ofNat 32 x.val) - Ideal.ofBits .f32 1123811328#32 : Ideal .f32) ≤ y then (1 : EReal) else 0)
      = ((reached y : ℝ) : EReal) := by
  simp only [lane_rung]
  exact sum_reached y

/-- The count of the powers reached, less 126, or zero when none is: the exponent. -/
theorem count_expo (y : EReal) :
    (if ((reached y : ℝ) : EReal) = 0 then (0 : EReal) else ((reached y : ℝ) : EReal) - Ideal.ofBits .f32 1123811328#32) = expoOf y := by
  rw [bias_word]
  unfold expoOf
  by_cases h : reached y = 0
  · simp [h]
  · rw [if_neg (by simpa using h), if_neg h, EReal.coe_sub]

/-- The exponent, at a row. -/
theorem expoV_at (y : FVec Ideal S61440x1 .f32) (r : Fin 61440) : expoV y (ix2 r 0) = expoOf (y (ix2 r 0)) := by
  pointwise [expoV]
  rw [count_reached]
  exact count_expo _

end Cert.Proof.Ref
end
-- ==== Proof.RefB.lean ====
module
public import proofs.«01_k».proof.Proof.Gen.ReferenceIdeal.Frame
public import proofs.«01_k».proof.Proof.Spec
public import proofs.«01_k».proof.Proof.RefExp
public import proofs.«01_k».proof.Proof.RefMax
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's scales and codes at an index. -/

/-- The first layer's codes, from the exponent. -/
theorem pay4_read (x : Vec Ideal S61440x1152 .bf16) (r : Fin 61440) (k : Fin 1152) :
    k0_pay4 x (ix2 r k) = min (Ideal.ofBits .f32 1138753536#32) (max (Ideal.ofBits .f32 3286237184#32)
      (k0_pay2 x (ix2 r k) * FloatOps.exp2 (0 - k0_pay3 x (ix2 r 0)))) := by
  pointwise [k0_pay4]

/-- The first layer's codes. -/
theorem pay4_at (x : Vec Ideal S61440x1152 .bf16) (r : Fin 61440) (k : Fin 1152) :
    k0_pay4 x (ix2 r k) = codeOf (fun k => k0_pay2 x (ix2 r k)) k := by
  rw [pay4_read, pay3_eq, expoV_at, rmax_at, show FloatOps.exp2 (0 - expoOf _ : Ideal .f32) = invOf _ from exp2_neg_expoOf _]
  rfl

/-- The first layer's scale, from the exponent. -/
theorem pay5_read (x : Vec Ideal S61440x1152 .bf16) (r : Fin 61440) :
    k0_pay5 x (ix2 r 0) = FloatOps.exp2 (k0_pay3 x (ix2 r 0)) := by
  pointwise [k0_pay5]

/-- The first layer's scale. -/
theorem pay5_at (x : Vec Ideal S61440x1152 .bf16) (r : Fin 61440) :
    k0_pay5 x (ix2 r 0) = sOf (fun k => k0_pay2 x (ix2 r k)) := by
  rw [pay5_read, pay3_eq, expoV_at, rmax_at]
  exact exp2_expoOf _

/-- The second layer's row over its scale, from the exponent. -/
theorem pay28_read (a b c d e f : FVec Ideal S61440x1152 .f32) (r : Fin 61440) (k : Fin 1152) :
    k0_pay28 a b c d e f (ix2 r k) = k0_pay26 a b c d e f (ix2 r k) * FloatOps.exp2 (0 - k0_pay27 a b c d e f (ix2 r 0)) := by
  pointwise [k0_pay28]

/-- The second layer's row over its scale. -/
theorem pay28_at (a b c d e f : FVec Ideal S61440x1152 .f32) (r : Fin 61440) (k : Fin 1152) :
    k0_pay28 a b c d e f (ix2 r k) = k0_pay26 a b c d e f (ix2 r k) * invOf (scaled fun k => k0_pay26 a b c d e f (ix2 r k)) := by
  rw [pay28_read, pay27_eq, expoV_at, rmax_at, show FloatOps.exp2 (0 - expoOf _ : Ideal .f32) = invOf _ from exp2_neg_expoOf _]

/-- The clamp of the second layer's codes. -/
theorem pay30_at (v : FVec Ideal S61440x1152 .f32) (r : Fin 61440) (k : Fin 1152) :
    k0_pay30 v (Scalar.ofBits .f32 0x43E00000#32) (k0_pay29 (F := Ideal)) (ix2 r k)
      = min (Ideal.ofBits .f32 1138753536#32) (max (Ideal.ofBits .f32 3286237184#32) (v (ix2 r k))) := by
  pointwise [k0_pay30, k0_pay29]

/-- The second layer's codes. -/
theorem code1_at (a b c d e f : FVec Ideal S61440x1152 .f32) (r : Fin 61440) (k : Fin 1152) :
    k0_pay30 (k0_pay28 a b c d e f) (Scalar.ofBits .f32 0x43E00000#32) (k0_pay29 (F := Ideal)) (ix2 r k)
      = codeOf (fun k => k0_pay26 a b c d e f (ix2 r k)) k := by
  rw [pay30_at, pay28_at]
  rfl

/-- The second layer's scale, from the exponent. -/
theorem pay31_read (y : FVec Ideal S61440x1 .f32) (r : Fin 61440) : k0_pay31 y (ix2 r 0) = FloatOps.exp2 (y (ix2 r 0)) := by
  pointwise [k0_pay31]

/-- The second layer's scale. -/
theorem scale1_at (a b c d e f : FVec Ideal S61440x1152 .f32) (r : Fin 61440) :
    k0_pay31 (k0_pay27 a b c d e f) (ix2 r 0) = sOf (fun k => k0_pay26 a b c d e f (ix2 r k)) := by
  rw [pay31_read, pay27_eq, expoV_at, rmax_at]
  exact exp2_expoOf _

end Cert.Proof.Ref
end
-- ==== Proof.RefC.lean ====
module
public import proofs.«01_k».proof.Proof.Gen.ReferenceIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's first layer, at an index. -/

/-- The first layer's scaled last factor, of the first expert. -/
theorem pay8_at (wu : Vec Ideal S1x1x256x1152 .fp8e4m3) (wus : Vec Ideal S1x1x1152 .f32) (j : Fin 256) (d : Fin 1152) : k0_pay8 wu wus (ix2 j d) = wu (ix4 0 0 j d) * wus (ix3 0 0 d) := by
  pointwise [k0_pay8]

/-- The hidden row of the first layer's first expert. -/
theorem pay10_at (c : FVec Ideal S61440x1152 .fp8e4m3) (s : FVec Ideal S61440x1 .f32) (g : FVec Ideal S61440x4 .f32) (wv : Vec Ideal S1x1152x256 .fp8e4m3) (wvs : Vec Ideal S1x1x256 .f32) (wc : Vec Ideal S1x1x256x256 .bf16) (r : Fin 61440) (j : Fin 256) :
    k0_pay10 c s g wv wvs wc (ix2 r j) = hid (k0_pay9 g (ix2 r 0)) (s (ix2 r 0)) (fun k => c (ix2 r k)) (fun k j => wv (ix3 0 k j)) (fun i => wvs (ix3 0 0 i)) (fun i j => wc (ix4 0 0 i j)) j := by
  pointwise [k0_pay10] <;> rfl

/-- The product of hidden rows with a scaled last factor. -/
theorem pay11_at (wu : FVec Ideal S256x1152 .bf16) (h : FVec Ideal S61440x256 .bf16) (r : Fin 61440) (d : Fin 1152) :
    k0_pay11 wu h (constant S61440x1152 .f32 0x00000000#32) (ix2 r d) = ∑ j, h (ix2 r j) * wu (ix2 j d) := by
  pointwise [k0_pay11]

/-- The second expert's part of the first layer's sum. -/
theorem pay14_at (c : FVec Ideal S61440x1152 .fp8e4m3) (s : FVec Ideal S61440x1 .f32) (g : FVec Ideal S61440x4 .f32) (wv : Vec Ideal S1x1152x256 .fp8e4m3) (wvs : Vec Ideal S1x1x256 .f32) (wu : Vec Ideal S1x1x256x1152 .fp8e4m3) (wus : Vec Ideal S1x1x1152 .f32) (wc : Vec Ideal S1x1x256x256 .bf16) (r : Fin 61440) (d : Fin 1152) :
    k0_pay14 c s g wv wvs wu wus wc (ix2 r d) = ∑ j, hid (k0_pay13 g (ix2 r 0)) (s (ix2 r 0)) (fun k => c (ix2 r k)) (fun k j => wv (ix3 0 k j)) (fun i => wvs (ix3 0 0 i)) (fun i j => wc (ix4 0 0 i j)) j * (wu (ix4 0 0 j d) * wus (ix3 0 0 d)) := by
  pointwise [k0_pay14] <;> rfl

/-- The third expert's part of the first layer's sum. -/
theorem pay18_at (c : FVec Ideal S61440x1152 .fp8e4m3) (s : FVec Ideal S61440x1 .f32) (g : FVec Ideal S61440x4 .f32) (wv : Vec Ideal S1x1152x256 .fp8e4m3) (wvs : Vec Ideal S1x1x256 .f32) (wu : Vec Ideal S1x1x256x1152 .fp8e4m3) (wus : Vec Ideal S1x1x1152 .f32) (wc : Vec Ideal S1x1x256x256 .bf16) (r : Fin 61440) (d : Fin 1152) :
    k0_pay18 c s g wv wvs wu wus wc (ix2 r d) = ∑ j, hid (k0_pay17 g (ix2 r 0)) (s (ix2 r 0)) (fun k => c (ix2 r k)) (fun k j => wv (ix3 0 k j)) (fun i => wvs (ix3 0 0 i)) (fun i j => wc (ix4 0 0 i j)) j * (wu (ix4 0 0 j d) * wus (ix3 0 0 d)) := by
  pointwise [k0_pay18] <;> rfl

/-- The fourth expert's part of the first layer's sum. -/
theorem pay23_at (c : FVec Ideal S61440x1152 .fp8e4m3) (s : FVec Ideal S61440x1 .f32) (g : FVec Ideal S61440x4 .f32) (wv : Vec Ideal S1x1152x256 .fp8e4m3) (wvs : Vec Ideal S1x1x256 .f32) (wu : Vec Ideal S1x1x256x1152 .fp8e4m3) (wus : Vec Ideal S1x1x1152 .f32) (wc : Vec Ideal S1x1x256x256 .bf16) (r : Fin 61440) (d : Fin 1152) :
    k0_pay23 c s g wv wvs wu wus wc (ix2 r d) = ∑ j, hid (k0_pay22 g (ix2 r 0)) (s (ix2 r 0)) (fun k => c (ix2 r k)) (fun k j => wv (ix3 0 k j)) (fun i => wvs (ix3 0 0 i)) (fun i j => wc (ix4 0 0 i j)) j * (wu (ix4 0 0 j d) * wus (ix3 0 0 d)) := by
  pointwise [k0_pay23] <;> rfl

end Cert.Proof.Ref
end
-- ==== Proof.RefD.lean ====
module
public import proofs.«01_k».proof.Proof.Gen.ReferenceIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's sums and biases, at an index. -/

/-- The first layer's bias of the first expert, times its gate. -/
theorem pay12_at (g : FVec Ideal S61440x1 .f32) (b : Vec Ideal S1x1x1152 .f32) (r : Fin 61440) (d : Fin 1152) : k0_pay12 g b (ix2 r d) = g (ix2 r 0) * b (ix3 0 0 d) := by
  pointwise [k0_pay12]
/-- The first layer's sum over two experts. -/
theorem pay15_at (x y : FVec Ideal S61440x1152 .f32) (r : Fin 61440) (d : Fin 1152) : k0_pay15 x y (ix2 r d) = x (ix2 r d) + y (ix2 r d) := by
  pointwise [k0_pay15]
/-- The first layer's mixed biases of two experts. -/
theorem pay16_at (x : FVec Ideal S61440x1152 .f32) (g : FVec Ideal S61440x1 .f32) (b : Vec Ideal S1x1x1152 .f32) (r : Fin 61440) (d : Fin 1152) : k0_pay16 x g b (ix2 r d) = x (ix2 r d) + g (ix2 r 0) * b (ix3 0 0 d) := by
  pointwise [k0_pay16]
/-- The first layer's bias of the third expert. -/
theorem pay19_at (b : Vec Ideal S1x1x1152 .f32) (d : Fin 1152) : k0_pay19 b (ix2 0 d) = b (ix3 0 0 d) := by
  pointwise [k0_pay19]
/-- The first layer's sum over three experts. -/
theorem pay20_at (x y : FVec Ideal S61440x1152 .f32) (r : Fin 61440) (d : Fin 1152) : k0_pay20 x y (ix2 r d) = x (ix2 r d) + y (ix2 r d) := by
  pointwise [k0_pay20]
/-- The first layer's mixed biases of three experts. -/
theorem pay21_at (x : FVec Ideal S61440x1152 .f32) (g : FVec Ideal S61440x1 .f32) (b : FVec Ideal S1x1152 .f32) (r : Fin 61440) (d : Fin 1152) : k0_pay21 x g b (ix2 r d) = x (ix2 r d) + g (ix2 r 0) * b (ix2 0 d) := by
  pointwise [k0_pay21]
/-- The first layer's fourth gate, along the row. -/
theorem pay24_at (g : FVec Ideal S61440x4 .f32) (r : Fin 61440) (d : Fin 1152) : k0_pay24 g (ix2 r d) = k0_pay22 g (ix2 r 0) := by
  pointwise [k0_pay24]
/-- The first layer's bias of the fourth expert, along the rows. -/
theorem pay25_at (b : Vec Ideal S1x1x1152 .f32) (r : Fin 61440) (d : Fin 1152) : k0_pay25 b (ix2 r d) = b (ix3 0 0 d) := by
  pointwise [k0_pay25]
/-- The row after the first layer. -/
theorem pay26_at (x p q u v w : FVec Ideal S61440x1152 .f32) (r : Fin 61440) (d : Fin 1152) : k0_pay26 x p q u v w (ix2 r d)
    = x (ix2 r d) * ((p (ix2 r d) + u (ix2 r d)) + (q (ix2 r d) + v (ix2 r d) * w (ix2 r d))) + x (ix2 r d) := by
  pointwise [k0_pay26]
/-- The second layer's bias of the first expert, times its gate. -/
theorem pay38_at (g : FVec Ideal S61440x1 .f32) (b : Vec Ideal S1x1x1152 .f32) (r : Fin 61440) (d : Fin 1152) : k0_pay38 g b (ix2 r d) = g (ix2 r 0) * b (ix3 0 0 d) := by
  pointwise [k0_pay38]
/-- The second layer's mixed biases of two experts. -/
theorem pay43_at (x : FVec Ideal S61440x1152 .f32) (g : FVec Ideal S61440x1 .f32) (b : Vec Ideal S1x1x1152 .f32) (r : Fin 61440) (d : Fin 1152) : k0_pay43 x g b (ix2 r d) = x (ix2 r d) + g (ix2 r 0) * b (ix3 0 0 d) := by
  pointwise [k0_pay43]
/-- The second layer's mixed biases of three experts. -/
theorem pay49_at (x : FVec Ideal S61440x1152 .f32) (g : FVec Ideal S61440x1 .f32) (b : Vec Ideal S1x1x1152 .f32) (r : Fin 61440) (d : Fin 1152) : k0_pay49 x g b (ix2 r d) = x (ix2 r d) + g (ix2 r 0) * b (ix3 0 0 d) := by
  pointwise [k0_pay49]

end Cert.Proof.Ref
end
-- ==== Proof.RefLd.lean ====
module
public import proofs.«01_k».proof.Proof.Gen.ReferenceIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's weights, and its loads from them. -/

/-- The weights of the reference's blocks. -/
def rwts (x1 : Vec Ideal S2x1152x4 .f32) (x2 : Vec Ideal S2x1152x1024 .fp8e4m3) (x3 : Vec Ideal S2x4x256 .f32)
    (x4 : Vec Ideal S2x4x256x256 .bf16) (x5 : Vec Ideal S2x4x256x1152 .fp8e4m3) (x6 : Vec Ideal S2x4x1152 .f32) (x7 : Vec Ideal S2x4x1152 .f32) : Wts where
  wg l e k := x1 (ix3 l k e)
  wv l e k j := x2 (ix3 l k (⟨256 * e.val + j.val, by omega⟩ : Fin 1024))
  wvs l e j := x3 (ix3 l e j)
  wc l e i j := x4 (ix4 l e i j)
  wu l e j d := x5 (ix4 l e j d)
  wus l e d := x6 (ix3 l e d)
  b l e d := x7 (ix3 l e d)

/-- The input, read whole. -/
theorem ld_x (x0 : Vec Ideal S61440x1152 .bf16) (r : Fin 61440) (k : Fin 1152) : View.ld x0 r0_0 (ix2 r k) = x0 (ix2 r k) := by
  pointwise []

/-- The input, read whole, is the input. -/
theorem ldx_eq (x0 : Vec Ideal S61440x1152 .bf16) : (View.ld x0 r0_0 : Vec Ideal S61440x1152 .bf16) = x0 := by
  funext y
  rw [eq_ix2 y]
  exact ld_x x0 _ _

section
variable (x1 : Vec Ideal S2x1152x4 .f32) (x2 : Vec Ideal S2x1152x1024 .fp8e4m3) (x3 : Vec Ideal S2x4x256 .f32) (x4 : Vec Ideal S2x4x256x256 .bf16) (x5 : Vec Ideal S2x4x256x1152 .fp8e4m3) (x6 : Vec Ideal S2x4x1152 .f32) (x7 : Vec Ideal S2x4x1152 .f32)
/-- The first layer's gate weights, read. -/
theorem ld_wg0 (k : Fin 1152) (e : Fin 4) : View.ld x1 r0_1 (ix3 0 k e) = (rwts x1 x2 x3 x4 x5 x6 x7).wg 0 e k := by
  pointwise [rwts] <;> rfl

/-- The codes of the first factor of layer 0, expert 0, read. -/
theorem ld_wv00 (k : Fin 1152) (j : Fin 256) : View.ld x2 r0_2 (ix3 0 k j) = (rwts x1 x2 x3 x4 x5 x6 x7).wv 0 0 k j := by
  pointwise [rwts] <;> first | rfl | exact congrArg x2 (congrArg (ix3 _ _) (Fin.ext (by simp)))
/-- The scales of the first factor of layer 0, expert 0, read. -/
theorem ld_wvs00 (j : Fin 256) : View.ld x3 r0_3 (ix3 0 0 j) = (rwts x1 x2 x3 x4 x5 x6 x7).wvs 0 0 j := by
  pointwise [rwts] <;> rfl
/-- The inner factor of layer 0, expert 0, read. -/
theorem ld_wc00 (i j : Fin 256) : View.ld x4 r0_6 (ix4 0 0 i j) = (rwts x1 x2 x3 x4 x5 x6 x7).wc 0 0 i j := by
  pointwise [rwts] <;> rfl
/-- The codes of the last factor of layer 0, expert 0, read. -/
theorem ld_wu00 (j : Fin 256) (d : Fin 1152) : View.ld x5 r0_4 (ix4 0 0 j d) = (rwts x1 x2 x3 x4 x5 x6 x7).wu 0 0 j d := by
  pointwise [rwts] <;> rfl
/-- The scales of the last factor of layer 0, expert 0, read. -/
theorem ld_wus00 (d : Fin 1152) : View.ld x6 r0_5 (ix3 0 0 d) = (rwts x1 x2 x3 x4 x5 x6 x7).wus 0 0 d := by
  pointwise [rwts] <;> rfl
/-- The biases of layer 0, expert 0, read. -/
theorem ld_b00 (d : Fin 1152) : View.ld x7 r0_5 (ix3 0 0 d) = (rwts x1 x2 x3 x4 x5 x6 x7).b 0 0 d := by
  pointwise [rwts] <;> rfl
/-- The codes of the first factor of layer 0, expert 1, read. -/
theorem ld_wv01 (k : Fin 1152) (j : Fin 256) : View.ld x2 r0_7 (ix3 0 k j) = (rwts x1 x2 x3 x4 x5 x6 x7).wv 0 1 k j := by
  pointwise [rwts] <;> first | rfl | exact congrArg x2 (congrArg (ix3 _ _) (Fin.ext (by simp)))
/-- The scales of the first factor of layer 0, expert 1, read. -/
theorem ld_wvs01 (j : Fin 256) : View.ld x3 r0_8 (ix3 0 0 j) = (rwts x1 x2 x3 x4 x5 x6 x7).wvs 0 1 j := by
  pointwise [rwts] <;> rfl
/-- The inner factor of layer 0, expert 1, read. -/
theorem ld_wc01 (i j : Fin 256) : View.ld x4 r0_11 (ix4 0 0 i j) = (rwts x1 x2 x3 x4 x5 x6 x7).wc 0 1 i j := by
  pointwise [rwts] <;> rfl
/-- The codes of the last factor of layer 0, expert 1, read. -/
theorem ld_wu01 (j : Fin 256) (d : Fin 1152) : View.ld x5 r0_9 (ix4 0 0 j d) = (rwts x1 x2 x3 x4 x5 x6 x7).wu 0 1 j d := by
  pointwise [rwts] <;> rfl
/-- The scales of the last factor of layer 0, expert 1, read. -/
theorem ld_wus01 (d : Fin 1152) : View.ld x6 r0_10 (ix3 0 0 d) = (rwts x1 x2 x3 x4 x5 x6 x7).wus 0 1 d := by
  pointwise [rwts] <;> rfl
/-- The biases of layer 0, expert 1, read. -/
theorem ld_b01 (d : Fin 1152) : View.ld x7 r0_10 (ix3 0 0 d) = (rwts x1 x2 x3 x4 x5 x6 x7).b 0 1 d := by
  pointwise [rwts] <;> rfl
/-- The codes of the first factor of layer 0, expert 2, read. -/
theorem ld_wv02 (k : Fin 1152) (j : Fin 256) : View.ld x2 r0_12 (ix3 0 k j) = (rwts x1 x2 x3 x4 x5 x6 x7).wv 0 2 k j := by
  pointwise [rwts] <;> first | rfl | exact congrArg x2 (congrArg (ix3 _ _) (Fin.ext (by simp)))
/-- The scales of the first factor of layer 0, expert 2, read. -/
theorem ld_wvs02 (j : Fin 256) : View.ld x3 r0_13 (ix3 0 0 j) = (rwts x1 x2 x3 x4 x5 x6 x7).wvs 0 2 j := by
  pointwise [rwts] <;> rfl
/-- The inner factor of layer 0, expert 2, read. -/
theorem ld_wc02 (i j : Fin 256) : View.ld x4 r0_16 (ix4 0 0 i j) = (rwts x1 x2 x3 x4 x5 x6 x7).wc 0 2 i j := by
  pointwise [rwts] <;> rfl
/-- The codes of the last factor of layer 0, expert 2, read. -/
theorem ld_wu02 (j : Fin 256) (d : Fin 1152) : View.ld x5 r0_14 (ix4 0 0 j d) = (rwts x1 x2 x3 x4 x5 x6 x7).wu 0 2 j d := by
  pointwise [rwts] <;> rfl
/-- The scales of the last factor of layer 0, expert 2, read. -/
theorem ld_wus02 (d : Fin 1152) : View.ld x6 r0_15 (ix3 0 0 d) = (rwts x1 x2 x3 x4 x5 x6 x7).wus 0 2 d := by
  pointwise [rwts] <;> rfl
/-- The biases of layer 0, expert 2, read. -/
theorem ld_b02 (d : Fin 1152) : View.ld x7 r0_15 (ix3 0 0 d) = (rwts x1 x2 x3 x4 x5 x6 x7).b 0 2 d := by
  pointwise [rwts] <;> rfl
/-- The codes of the first factor of layer 0, expert 3, read. -/
theorem ld_wv03 (k : Fin 1152) (j : Fin 256) : View.ld x2 r0_17 (ix3 0 k j) = (rwts x1 x2 x3 x4 x5 x6 x7).wv 0 3 k j := by
  pointwise [rwts] <;> first | rfl | exact congrArg x2 (congrArg (ix3 _ _) (Fin.ext (by simp)))
/-- The scales of the first factor of layer 0, expert 3, read. -/
theorem ld_wvs03 (j : Fin 256) : View.ld x3 r0_18 (ix3 0 0 j) = (rwts x1 x2 x3 x4 x5 x6 x7).wvs 0 3 j := by
  pointwise [rwts] <;> rfl
/-- The inner factor of layer 0, expert 3, read. -/
theorem ld_wc03 (i j : Fin 256) : View.ld x4 r0_21 (ix4 0 0 i j) = (rwts x1 x2 x3 x4 x5 x6 x7).wc 0 3 i j := by
  pointwise [rwts] <;> rfl
/-- The codes of the last factor of layer 0, expert 3, read. -/
theorem ld_wu03 (j : Fin 256) (d : Fin 1152) : View.ld x5 r0_19 (ix4 0 0 j d) = (rwts x1 x2 x3 x4 x5 x6 x7).wu 0 3 j d := by
  pointwise [rwts] <;> rfl
/-- The scales of the last factor of layer 0, expert 3, read. -/
theorem ld_wus03 (d : Fin 1152) : View.ld x6 r0_20 (ix3 0 0 d) = (rwts x1 x2 x3 x4 x5 x6 x7).wus 0 3 d := by
  pointwise [rwts] <;> rfl
/-- The biases of layer 0, expert 3, read. -/
theorem ld_b03 (d : Fin 1152) : View.ld x7 r0_20 (ix3 0 0 d) = (rwts x1 x2 x3 x4 x5 x6 x7).b 0 3 d := by
  pointwise [rwts] <;> rfl
/-- The second layer's gate weights, read. -/
theorem ld_wg1 (k : Fin 1152) (e : Fin 4) : View.ld x1 r0_24 (ix3 0 k e) = (rwts x1 x2 x3 x4 x5 x6 x7).wg 1 e k := by
  pointwise [rwts] <;> rfl

/-- The codes of the first factor of layer 1, expert 0, read. -/
theorem ld_wv10 (k : Fin 1152) (j : Fin 256) : View.ld x2 r0_25 (ix3 0 k j) = (rwts x1 x2 x3 x4 x5 x6 x7).wv 1 0 k j := by
  pointwise [rwts] <;> first | rfl | exact congrArg x2 (congrArg (ix3 _ _) (Fin.ext (by simp)))
/-- The scales of the first factor of layer 1, expert 0, read. -/
theorem ld_wvs10 (j : Fin 256) : View.ld x3 r0_26 (ix3 0 0 j) = (rwts x1 x2 x3 x4 x5 x6 x7).wvs 1 0 j := by
  pointwise [rwts] <;> rfl
/-- The inner factor of layer 1, expert 0, read. -/
theorem ld_wc10 (i j : Fin 256) : View.ld x4 r0_29 (ix4 0 0 i j) = (rwts x1 x2 x3 x4 x5 x6 x7).wc 1 0 i j := by
  pointwise [rwts] <;> rfl
/-- The codes of the last factor of layer 1, expert 0, read. -/
theorem ld_wu10 (j : Fin 256) (d : Fin 1152) : View.ld x5 r0_27 (ix4 0 0 j d) = (rwts x1 x2 x3 x4 x5 x6 x7).wu 1 0 j d := by
  pointwise [rwts] <;> rfl
/-- The scales of the last factor of layer 1, expert 0, read. -/
theorem ld_wus10 (d : Fin 1152) : View.ld x6 r0_28 (ix3 0 0 d) = (rwts x1 x2 x3 x4 x5 x6 x7).wus 1 0 d := by
  pointwise [rwts] <;> rfl
/-- The biases of layer 1, expert 0, read. -/
theorem ld_b10 (d : Fin 1152) : View.ld x7 r0_28 (ix3 0 0 d) = (rwts x1 x2 x3 x4 x5 x6 x7).b 1 0 d := by
  pointwise [rwts] <;> rfl
/-- The codes of the first factor of layer 1, expert 1, read. -/
theorem ld_wv11 (k : Fin 1152) (j : Fin 256) : View.ld x2 r0_30 (ix3 0 k j) = (rwts x1 x2 x3 x4 x5 x6 x7).wv 1 1 k j := by
  pointwise [rwts] <;> first | rfl | exact congrArg x2 (congrArg (ix3 _ _) (Fin.ext (by simp)))
/-- The scales of the first factor of layer 1, expert 1, read. -/
theorem ld_wvs11 (j : Fin 256) : View.ld x3 r0_31 (ix3 0 0 j) = (rwts x1 x2 x3 x4 x5 x6 x7).wvs 1 1 j := by
  pointwise [rwts] <;> rfl
/-- The inner factor of layer 1, expert 1, read. -/
theorem ld_wc11 (i j : Fin 256) : View.ld x4 r0_34 (ix4 0 0 i j) = (rwts x1 x2 x3 x4 x5 x6 x7).wc 1 1 i j := by
  pointwise [rwts] <;> rfl
/-- The codes of the last factor of layer 1, expert 1, read. -/
theorem ld_wu11 (j : Fin 256) (d : Fin 1152) : View.ld x5 r0_32 (ix4 0 0 j d) = (rwts x1 x2 x3 x4 x5 x6 x7).wu 1 1 j d := by
  pointwise [rwts] <;> rfl
/-- The scales of the last factor of layer 1, expert 1, read. -/
theorem ld_wus11 (d : Fin 1152) : View.ld x6 r0_33 (ix3 0 0 d) = (rwts x1 x2 x3 x4 x5 x6 x7).wus 1 1 d := by
  pointwise [rwts] <;> rfl
/-- The biases of layer 1, expert 1, read. -/
theorem ld_b11 (d : Fin 1152) : View.ld x7 r0_33 (ix3 0 0 d) = (rwts x1 x2 x3 x4 x5 x6 x7).b 1 1 d := by
  pointwise [rwts] <;> rfl
/-- The codes of the first factor of layer 1, expert 2, read. -/
theorem ld_wv12 (k : Fin 1152) (j : Fin 256) : View.ld x2 r0_35 (ix3 0 k j) = (rwts x1 x2 x3 x4 x5 x6 x7).wv 1 2 k j := by
  pointwise [rwts] <;> first | rfl | exact congrArg x2 (congrArg (ix3 _ _) (Fin.ext (by simp)))
/-- The scales of the first factor of layer 1, expert 2, read. -/
theorem ld_wvs12 (j : Fin 256) : View.ld x3 r0_36 (ix3 0 0 j) = (rwts x1 x2 x3 x4 x5 x6 x7).wvs 1 2 j := by
  pointwise [rwts] <;> rfl
/-- The inner factor of layer 1, expert 2, read. -/
theorem ld_wc12 (i j : Fin 256) : View.ld x4 r0_39 (ix4 0 0 i j) = (rwts x1 x2 x3 x4 x5 x6 x7).wc 1 2 i j := by
  pointwise [rwts] <;> rfl
/-- The codes of the last factor of layer 1, expert 2, read. -/
theorem ld_wu12 (j : Fin 256) (d : Fin 1152) : View.ld x5 r0_37 (ix4 0 0 j d) = (rwts x1 x2 x3 x4 x5 x6 x7).wu 1 2 j d := by
  pointwise [rwts] <;> rfl
/-- The scales of the last factor of layer 1, expert 2, read. -/
theorem ld_wus12 (d : Fin 1152) : View.ld x6 r0_38 (ix3 0 0 d) = (rwts x1 x2 x3 x4 x5 x6 x7).wus 1 2 d := by
  pointwise [rwts] <;> rfl
/-- The biases of layer 1, expert 2, read. -/
theorem ld_b12 (d : Fin 1152) : View.ld x7 r0_38 (ix3 0 0 d) = (rwts x1 x2 x3 x4 x5 x6 x7).b 1 2 d := by
  pointwise [rwts] <;> rfl
/-- The codes of the first factor of layer 1, expert 3, read. -/
theorem ld_wv13 (k : Fin 1152) (j : Fin 256) : View.ld x2 r0_40 (ix3 0 k j) = (rwts x1 x2 x3 x4 x5 x6 x7).wv 1 3 k j := by
  pointwise [rwts] <;> first | rfl | exact congrArg x2 (congrArg (ix3 _ _) (Fin.ext (by simp)))
/-- The scales of the first factor of layer 1, expert 3, read. -/
theorem ld_wvs13 (j : Fin 256) : View.ld x3 r0_41 (ix3 0 0 j) = (rwts x1 x2 x3 x4 x5 x6 x7).wvs 1 3 j := by
  pointwise [rwts] <;> rfl
/-- The inner factor of layer 1, expert 3, read. -/
theorem ld_wc13 (i j : Fin 256) : View.ld x4 r0_44 (ix4 0 0 i j) = (rwts x1 x2 x3 x4 x5 x6 x7).wc 1 3 i j := by
  pointwise [rwts] <;> rfl
/-- The codes of the last factor of layer 1, expert 3, read. -/
theorem ld_wu13 (j : Fin 256) (d : Fin 1152) : View.ld x5 r0_42 (ix4 0 0 j d) = (rwts x1 x2 x3 x4 x5 x6 x7).wu 1 3 j d := by
  pointwise [rwts] <;> rfl
/-- The scales of the last factor of layer 1, expert 3, read. -/
theorem ld_wus13 (d : Fin 1152) : View.ld x6 r0_43 (ix3 0 0 d) = (rwts x1 x2 x3 x4 x5 x6 x7).wus 1 3 d := by
  pointwise [rwts] <;> rfl
/-- The biases of layer 1, expert 3, read. -/
theorem ld_b13 (d : Fin 1152) : View.ld x7 r0_43 (ix3 0 0 d) = (rwts x1 x2 x3 x4 x5 x6 x7).b 1 3 d := by
  pointwise [rwts] <;> rfl
end

end Cert.Proof.Ref
end
-- ==== Proof.RefF.lean ====
module
public import proofs.«01_k».proof.Proof.Gen.ReferenceIdeal.Frame
public import proofs.«01_k».proof.Proof.Spec
public import proofs.«01_k».proof.Proof.RefA
public import proofs.«01_k».proof.Proof.RefB
public import proofs.«01_k».proof.Proof.RefC
public import proofs.«01_k».proof.Proof.RefD
public import proofs.«01_k».proof.Proof.RefLd
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's first layer, from its blocks. -/

section
variable (x0 : Vec Ideal S61440x1152 .bf16) (x1 : Vec Ideal S2x1152x4 .f32) (x2 : Vec Ideal S2x1152x1024 .fp8e4m3) (x3 : Vec Ideal S2x4x256 .f32) (x4 : Vec Ideal S2x4x256x256 .bf16) (x5 : Vec Ideal S2x4x256x1152 .fp8e4m3) (x6 : Vec Ideal S2x4x1152 .f32) (x7 : Vec Ideal S2x4x1152 .f32)
variable (r : Fin 61440)

/-- The input, read again for the second layer. -/
theorem pay53_at (k : Fin 1152) : k0_pay53 x0 x1 x2 x3 x4 x5 x6 x7 (ix2 r k) = x0 (ix2 r k) := by
  rw [k0_pay53, ldx_eq, pay2_at]

/-- The first layer's codes. -/
theorem pay54_at (k : Fin 1152) : k0_pay54 x0 x1 x2 x3 x4 x5 x6 x7 (ix2 r k) = codeOf (fun k => x0 (ix2 r k)) k := by
  rw [k0_pay54, ldx_eq, pay4_at]
  simp only [pay2_at]

/-- The first layer's scale. -/
theorem pay55_at : k0_pay55 x0 x1 x2 x3 x4 x5 x6 x7 (ix2 r 0) = sOf (fun k => x0 (ix2 r k)) := by
  rw [k0_pay55, ldx_eq, pay5_at]
  simp only [pay2_at]

/-- The first layer's logits. -/
theorem pay56_at (e : Fin 4) : k0_pay56 x0 x1 x2 x3 x4 x5 x6 x7 (ix2 r e) = lg (rwts x1 x2 x3 x4 x5 x6 x7) 0 (fun k => x0 (ix2 r k)) e := by
  rw [k0_pay56, ldx_eq, pay6_at]
  simp only [ld_wg0 x1 x2 x3 x4 x5 x6 x7]
  rfl

/-- The first layer's softmax. -/
theorem pay57_at (e : Fin 4) : k0_pay57 x0 x1 x2 x3 x4 x5 x6 x7 (ix2 r e) = gate (lg (rwts x1 x2 x3 x4 x5 x6 x7) 0 (fun k => x0 (ix2 r k))) e := by
  rw [k0_pay57, pay7_at]
  simp only [pay56_at]

/-- The sum of the first three experts. -/
theorem pay58_at (d : Fin 1152) : k0_pay58 x0 x1 x2 x3 x4 x5 x6 x7 (ix2 r d) = part (rwts x1 x2 x3 x4 x5 x6 x7) 0 (fun k => x0 (ix2 r k)) d 0 + part (rwts x1 x2 x3 x4 x5 x6 x7) 0 (fun k => x0 (ix2 r k)) d 1 + part (rwts x1 x2 x3 x4 x5 x6 x7) 0 (fun k => x0 (ix2 r k)) d 2 := by
  rw [k0_pay58, pay20_at, pay15_at, pay11_at, pay14_at, pay18_at]
  simp only [pay10_at, pay8_at, pay9_at, pay7_at, pay13_at, pay17_at, pay54_at, pay55_at, pay56_at, pay57_at, ld_wv00 x1 x2 x3 x4 x5 x6 x7, ld_wvs00 x1 x2 x3 x4 x5 x6 x7, ld_wc00 x1 x2 x3 x4 x5 x6 x7, ld_wu00 x1 x2 x3 x4 x5 x6 x7, ld_wus00 x1 x2 x3 x4 x5 x6 x7, ld_wv01 x1 x2 x3 x4 x5 x6 x7, ld_wvs01 x1 x2 x3 x4 x5 x6 x7, ld_wc01 x1 x2 x3 x4 x5 x6 x7, ld_wu01 x1 x2 x3 x4 x5 x6 x7, ld_wus01 x1 x2 x3 x4 x5 x6 x7, ld_wv02 x1 x2 x3 x4 x5 x6 x7, ld_wvs02 x1 x2 x3 x4 x5 x6 x7, ld_wc02 x1 x2 x3 x4 x5 x6 x7, ld_wu02 x1 x2 x3 x4 x5 x6 x7, ld_wus02 x1 x2 x3 x4 x5 x6 x7]
  rfl

/-- The gated biases of the first three experts. -/
theorem pay59_at (d : Fin 1152) : k0_pay59 x0 x1 x2 x3 x4 x5 x6 x7 (ix2 r d)
    = gate (lg (rwts x1 x2 x3 x4 x5 x6 x7) 0 (fun k => x0 (ix2 r k))) 0 * (rwts x1 x2 x3 x4 x5 x6 x7).b 0 0 d + gate (lg (rwts x1 x2 x3 x4 x5 x6 x7) 0 (fun k => x0 (ix2 r k))) 1 * (rwts x1 x2 x3 x4 x5 x6 x7).b 0 1 d + gate (lg (rwts x1 x2 x3 x4 x5 x6 x7) 0 (fun k => x0 (ix2 r k))) 2 * (rwts x1 x2 x3 x4 x5 x6 x7).b 0 2 d := by
  rw [k0_pay59, pay21_at, pay16_at, pay12_at, pay19_at]
  simp only [pay9_at, pay7_at, pay13_at, pay17_at, pay56_at, pay57_at, ld_b00 x1 x2 x3 x4 x5 x6 x7, ld_b01 x1 x2 x3 x4 x5 x6 x7, ld_b02 x1 x2 x3 x4 x5 x6 x7]

/-- The last expert. -/
theorem pay60_at (d : Fin 1152) : k0_pay60 x0 x1 x2 x3 x4 x5 x6 x7 (ix2 r d) = part (rwts x1 x2 x3 x4 x5 x6 x7) 0 (fun k => x0 (ix2 r k)) d 3 := by
  rw [k0_pay60, pay23_at]
  simp only [pay22_at, pay54_at, pay55_at, pay57_at, ld_wv03 x1 x2 x3 x4 x5 x6 x7, ld_wvs03 x1 x2 x3 x4 x5 x6 x7, ld_wc03 x1 x2 x3 x4 x5 x6 x7, ld_wu03 x1 x2 x3 x4 x5 x6 x7, ld_wus03 x1 x2 x3 x4 x5 x6 x7]
  rfl

/-- The row after the first layer. -/
theorem pay63_at (d : Fin 1152) : k0_pay63 x0 x1 x2 x3 x4 x5 x6 x7 (ix2 r d) = mid (rwts x1 x2 x3 x4 x5 x6 x7) (fun k => x0 (ix2 r k)) d := by
  rw [k0_pay63, pay26_at, pay53_at, pay58_at, pay59_at, pay60_at, k0_pay61, pay24_at, pay22_at, pay57_at, k0_pay62, pay25_at, ld_b03 x1 x2 x3 x4 x5 x6 x7]
  rfl

/-- The second layer's codes, as the first expert reads them. -/
theorem pay67_read (k : Fin 1152) : k0_pay30 (k0_pay65 x0 x1 x2 x3 x4 x5 x6 x7) (Scalar.ofBits .f32 0x43E00000#32) (k0_pay66 x0 x1 x2 x3 x4 x5 x6 x7) (ix2 r k) = codeOf (mid (rwts x1 x2 x3 x4 x5 x6 x7) (fun k => x0 (ix2 r k))) k := by
  refine (code1_at (k0_pay53 x0 x1 x2 x3 x4 x5 x6 x7) (k0_pay58 x0 x1 x2 x3 x4 x5 x6 x7) (k0_pay59 x0 x1 x2 x3 x4 x5 x6 x7) (k0_pay60 x0 x1 x2 x3 x4 x5 x6 x7) (k0_pay61 x0 x1 x2 x3 x4 x5 x6 x7) (k0_pay62 x0 x1 x2 x3 x4 x5 x6 x7) r k).trans ?_
  exact congrArg (codeOf · k) (funext fun k => pay63_at x0 x1 x2 x3 x4 x5 x6 x7 r k)

/-- The second layer's codes. -/
theorem pay67_at (k : Fin 1152) : k0_pay67 x0 x1 x2 x3 x4 x5 x6 x7 (ix2 r k) = codeOf (mid (rwts x1 x2 x3 x4 x5 x6 x7) (fun k => x0 (ix2 r k))) k := pay67_read x0 x1 x2 x3 x4 x5 x6 x7 r k

/-- The second layer's scale, as the first expert reads it. -/
theorem pay68_read : k0_pay31 (k0_pay64 x0 x1 x2 x3 x4 x5 x6 x7) (ix2 r 0) = sOf (mid (rwts x1 x2 x3 x4 x5 x6 x7) (fun k => x0 (ix2 r k))) := by
  refine (scale1_at (k0_pay53 x0 x1 x2 x3 x4 x5 x6 x7) (k0_pay58 x0 x1 x2 x3 x4 x5 x6 x7) (k0_pay59 x0 x1 x2 x3 x4 x5 x6 x7) (k0_pay60 x0 x1 x2 x3 x4 x5 x6 x7) (k0_pay61 x0 x1 x2 x3 x4 x5 x6 x7) (k0_pay62 x0 x1 x2 x3 x4 x5 x6 x7) r).trans ?_
  exact congrArg sOf (funext fun k => pay63_at x0 x1 x2 x3 x4 x5 x6 x7 r k)

/-- The second layer's scale. -/
theorem pay68_at : k0_pay68 x0 x1 x2 x3 x4 x5 x6 x7 (ix2 r 0) = sOf (mid (rwts x1 x2 x3 x4 x5 x6 x7) (fun k => x0 (ix2 r k))) := pay68_read x0 x1 x2 x3 x4 x5 x6 x7 r

/-- The second layer's logits. -/
theorem logits1_at (e : Fin 4) : k0_pay32 (k0_pay63 x0 x1 x2 x3 x4 x5 x6 x7) (View.ld x1 r0_24) (ix2 r e) = lg (rwts x1 x2 x3 x4 x5 x6 x7) 1 (mid (rwts x1 x2 x3 x4 x5 x6 x7) (fun k => x0 (ix2 r k))) e := by
  rw [pay32_at]
  simp only [pay63_at, ld_wg1 x1 x2 x3 x4 x5 x6 x7]
  rfl

/-- The second layer's softmax. -/
theorem pay69_at (e : Fin 4) : k0_pay69 x0 x1 x2 x3 x4 x5 x6 x7 (ix2 r e) = gate (lg (rwts x1 x2 x3 x4 x5 x6 x7) 1 (mid (rwts x1 x2 x3 x4 x5 x6 x7) (fun k => x0 (ix2 r k)))) e := by
  rw [k0_pay69, pay33_eq, pay7_at]
  simp only [logits1_at]

/-- The second layer's first gate, from the operands. -/
theorem pay70_at : k0_pay70 x0 x1 x2 x3 x4 x5 x6 x7 (ix2 r 0) = gate (lg (rwts x1 x2 x3 x4 x5 x6 x7) 1 (mid (rwts x1 x2 x3 x4 x5 x6 x7) (fun k => x0 (ix2 r k)))) 0 := by
  rw [k0_pay70, pay35_at]
  exact pay69_at x0 x1 x2 x3 x4 x5 x6 x7 r 0

/-- The second layer's second gate, from the operands. -/
theorem pay71_at : k0_pay71 x0 x1 x2 x3 x4 x5 x6 x7 (ix2 r 0) = gate (lg (rwts x1 x2 x3 x4 x5 x6 x7) 1 (mid (rwts x1 x2 x3 x4 x5 x6 x7) (fun k => x0 (ix2 r k)))) 1 := by
  rw [k0_pay71, pay40_at, pay69_at]

/-- The second layer's third gate, from the operands. -/
theorem pay72_at : k0_pay72 x0 x1 x2 x3 x4 x5 x6 x7 (ix2 r 0) = gate (lg (rwts x1 x2 x3 x4 x5 x6 x7) 1 (mid (rwts x1 x2 x3 x4 x5 x6 x7) (fun k => x0 (ix2 r k)))) 2 := by
  rw [k0_pay72, pay45_at, pay69_at]
end

end Cert.Proof.Ref
end
-- ==== Proof.RefE.lean ====
module
public import proofs.«01_k».proof.Proof.Gen.ReferenceIdeal.Frame
public import proofs.«01_k».proof.Proof.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's second layer, at an index. -/

/-- The second layer's scaled last factor, of the first expert. -/
theorem pay34_at (wu : Vec Ideal S1x1x256x1152 .fp8e4m3) (wus : Vec Ideal S1x1x1152 .f32) (j : Fin 256) (d : Fin 1152) : k0_pay34 wu wus (ix2 j d) = wu (ix4 0 0 j d) * wus (ix3 0 0 d) := by
  pointwise [k0_pay34]

/-- The second layer's scaled last factor, of the second expert. -/
theorem pay39_at (wu : Vec Ideal S1x1x256x1152 .fp8e4m3) (wus : Vec Ideal S1x1x1152 .f32) (j : Fin 256) (d : Fin 1152) : k0_pay39 wu wus (ix2 j d) = wu (ix4 0 0 j d) * wus (ix3 0 0 d) := by
  pointwise [k0_pay39]

/-- The second layer's scaled last factor, of the third expert. -/
theorem pay44_at (wu : Vec Ideal S1x1x256x1152 .fp8e4m3) (wus : Vec Ideal S1x1x1152 .f32) (j : Fin 256) (d : Fin 1152) : k0_pay44 wu wus (ix2 j d) = wu (ix4 0 0 j d) * wus (ix3 0 0 d) := by
  pointwise [k0_pay44]

/-- The second layer's scaled last factor, of the fourth expert. -/
theorem pay50_at (wu : Vec Ideal S1x1x256x1152 .fp8e4m3) (wus : Vec Ideal S1x1x1152 .f32) (j : Fin 256) (d : Fin 1152) : k0_pay50 wu wus (ix2 j d) = wu (ix4 0 0 j d) * wus (ix3 0 0 d) := by
  pointwise [k0_pay50]

/-- The second layer's first expert: the first factor's step, from the codes and the scale. -/
theorem pay36_eq (e : FVec Ideal S61440x1 .f32) (v : FVec Ideal S61440x1152 .f32) (q : Ideal .f32) (u : FVec Ideal S61440x1152 .f32) (wv : Vec Ideal S1x1152x256 .fp8e4m3) (wvs : Vec Ideal S1x1x256 .f32) : k0_pay36 e v q u wv wvs = k0_pay41 (k0_pay30 v q u) (k0_pay31 e) wv wvs := by
  delta k0_pay36 k0_pay41
  with_reducible rfl

/-- The first factor's step of the second layer's second expert. -/
theorem pay41_at (c : FVec Ideal S61440x1152 .fp8e4m3) (s : FVec Ideal S61440x1 .f32) (wv : Vec Ideal S1x1152x256 .fp8e4m3) (wvs : Vec Ideal S1x1x256 .f32) (r : Fin 61440) (j : Fin 256) : k0_pay41 c s wv wvs (ix2 r j) = Ideal.tanh ((∑ k, c (ix2 r k) * wv (ix3 0 k j)) * s (ix2 r 0) * wvs (ix3 0 0 j)) := by
  pointwise [k0_pay41]

/-- The first factor's step of the second layer's third expert. -/
theorem pay46_at (c : FVec Ideal S61440x1152 .fp8e4m3) (s : FVec Ideal S61440x1 .f32) (wv : Vec Ideal S1x1152x256 .fp8e4m3) (wvs : Vec Ideal S1x1x256 .f32) (r : Fin 61440) (j : Fin 256) : k0_pay46 c s wv wvs (ix2 r j) = Ideal.tanh ((∑ k, c (ix2 r k) * wv (ix3 0 k j)) * s (ix2 r 0) * wvs (ix3 0 0 j)) := by
  pointwise [k0_pay46]

/-- The inner factor of the second layer's third expert. -/
theorem pay47_at (wc : Vec Ideal S1x1x256x256 .bf16) (i j : Fin 256) : k0_pay47 wc (ix2 i j) = wc (ix4 0 0 i j) := by
  pointwise [k0_pay47]

/-- The first factor's and inner factor's steps of the second layer's fourth expert. -/
theorem pay52_at (c : FVec Ideal S61440x1152 .fp8e4m3) (s : FVec Ideal S61440x1 .f32) (wv : Vec Ideal S1x1152x256 .fp8e4m3) (wvs : Vec Ideal S1x1x256 .f32) (wc : Vec Ideal S1x1x256x256 .bf16) (r : Fin 61440) (j : Fin 256) : k0_pay52 c s wv wvs wc (ix2 r j)
    = ∑ i, Ideal.tanh ((∑ k, c (ix2 r k) * wv (ix3 0 k i)) * s (ix2 r 0) * wvs (ix3 0 0 i)) * wc (ix4 0 0 i j) := by
  pointwise [k0_pay52]

/-- The first expert's part of the second layer's sum. -/
theorem pay37_at (wu : FVec Ideal S256x1152 .bf16) (g : FVec Ideal S61440x1 .f32) (h : FVec Ideal S61440x256 .bf16) (wc : Vec Ideal S1x1x256x256 .bf16) (r : Fin 61440) (d : Fin 1152) :
    k0_pay37 wu g h wc (ix2 r d) = ∑ j, g (ix2 r 0) * Ideal.tanh (∑ i, h (ix2 r i) * wc (ix4 0 0 i j)) * wu (ix2 j d) := by
  pointwise [k0_pay37]

/-- The second layer's sum over two experts. -/
theorem pay42_at (x : FVec Ideal S61440x1152 .f32) (wu : FVec Ideal S256x1152 .bf16) (g : FVec Ideal S61440x1 .f32) (h : FVec Ideal S61440x256 .bf16) (wc : Vec Ideal S1x1x256x256 .bf16) (r : Fin 61440) (d : Fin 1152) :
    k0_pay42 x wu g h wc (ix2 r d) = x (ix2 r d) + ∑ j, g (ix2 r 0) * Ideal.tanh (∑ i, h (ix2 r i) * wc (ix4 0 0 i j)) * wu (ix2 j d) := by
  pointwise [k0_pay42]

/-- The second layer's sum over three experts. -/
theorem pay48_at (x : FVec Ideal S61440x1152 .f32) (wu : FVec Ideal S256x1152 .bf16) (g : FVec Ideal S61440x1 .f32) (h : FVec Ideal S61440x256 .bf16) (wc : FVec Ideal S256x256 .bf16) (r : Fin 61440) (d : Fin 1152) :
    k0_pay48 x wu g h wc (ix2 r d) = x (ix2 r d) + ∑ j, g (ix2 r 0) * Ideal.tanh (∑ i, h (ix2 r i) * wc (ix2 i j)) * wu (ix2 j d) := by
  pointwise [k0_pay48]

/-- The row after both layers. -/
theorem pay1_at (x v p q : FVec Ideal S61440x1152 .f32) (wu : FVec Ideal S256x1152 .bf16) (g : FVec Ideal S61440x1 .f32) (h : FVec Ideal S61440x256 .f32) (b : Vec Ideal S1x1x1152 .f32) (r : Fin 61440) (d : Fin 1152) :
    k0_pay1 x v p q wu g h b (ix2 r d) = x (ix2 r d) * (p (ix2 r d) + ∑ j, g (ix2 r 0) * Ideal.tanh (h (ix2 r j)) * wu (ix2 j d)
      + (q (ix2 r d) + g (ix2 r 0) * b (ix3 0 0 d))) + v (ix2 r d) := by
  pointwise [k0_pay1]

end Cert.Proof.Ref
end
-- ==== Proof.RefG.lean ====
module
public import proofs.«01_k».proof.Proof.Gen.ReferenceIdeal.Frame
public import proofs.«01_k».proof.Proof.Spec
public import proofs.«01_k».proof.Proof.RefF
public import proofs.«01_k».proof.Proof.RefE
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's second layer, from its blocks. -/

section
variable (x0 : Vec Ideal S61440x1152 .bf16) (x1 : Vec Ideal S2x1152x4 .f32) (x2 : Vec Ideal S2x1152x1024 .fp8e4m3) (x3 : Vec Ideal S2x4x256 .f32) (x4 : Vec Ideal S2x4x256x256 .bf16) (x5 : Vec Ideal S2x4x256x1152 .fp8e4m3) (x6 : Vec Ideal S2x4x1152 .f32) (x7 : Vec Ideal S2x4x1152 .f32)
variable (r : Fin 61440)

/-- The stored rows. -/
def yV : FVec Ideal S61440x1152 .bf16 := k0_pay1 (k0_pay53 x0 x1 x2 x3 x4 x5 x6 x7) (k0_pay63 x0 x1 x2 x3 x4 x5 x6 x7) (k0_pay48 (k0_pay42 (k0_pay37 (k0_pay34 (View.ld x5 r0_27) (View.ld x6 r0_28)) (k0_pay70 x0 x1 x2 x3 x4 x5 x6 x7) (k0_pay36 (k0_pay64 x0 x1 x2 x3 x4 x5 x6 x7) (k0_pay65 x0 x1 x2 x3 x4 x5 x6 x7) (Scalar.ofBits .f32 0x43E00000#32) (k0_pay66 x0 x1 x2 x3 x4 x5 x6 x7) (View.ld x2 r0_25) (View.ld x3 r0_26)) (View.ld x4 r0_29)) (k0_pay39 (View.ld x5 r0_32) (View.ld x6 r0_33)) (k0_pay71 x0 x1 x2 x3 x4 x5 x6 x7) (k0_pay41 (k0_pay67 x0 x1 x2 x3 x4 x5 x6 x7) (k0_pay68 x0 x1 x2 x3 x4 x5 x6 x7) (View.ld x2 r0_30) (View.ld x3 r0_31)) (View.ld x4 r0_34)) (k0_pay44 (View.ld x5 r0_37) (View.ld x6 r0_38)) (k0_pay72 x0 x1 x2 x3 x4 x5 x6 x7) (k0_pay46 (k0_pay67 x0 x1 x2 x3 x4 x5 x6 x7) (k0_pay68 x0 x1 x2 x3 x4 x5 x6 x7) (View.ld x2 r0_35) (View.ld x3 r0_36)) (k0_pay47 (View.ld x4 r0_39))) (k0_pay49 (k0_pay43 (k0_pay38 (k0_pay70 x0 x1 x2 x3 x4 x5 x6 x7) (View.ld x7 r0_28)) (k0_pay71 x0 x1 x2 x3 x4 x5 x6 x7) (View.ld x7 r0_33)) (k0_pay72 x0 x1 x2 x3 x4 x5 x6 x7) (View.ld x7 r0_38)) (k0_pay50 (View.ld x5 r0_42) (View.ld x6 r0_43)) (k0_pay51 (k0_pay69 x0 x1 x2 x3 x4 x5 x6 x7)) (k0_pay52 (k0_pay67 x0 x1 x2 x3 x4 x5 x6 x7) (k0_pay68 x0 x1 x2 x3 x4 x5 x6 x7) (View.ld x2 r0_40) (View.ld x3 r0_41) (View.ld x4 r0_44)) (View.ld x7 r0_43)

/-- The reference's result: the input's row after both layers. -/
theorem yV_at (d : Fin 1152) : yV x0 x1 x2 x3 x4 x5 x6 x7 (ix2 r d) = fin (rwts x1 x2 x3 x4 x5 x6 x7) (fun k => x0 (ix2 r k)) d := by
  rw [yV, pay1_at, pay48_at, pay42_at, pay37_at, pay49_at, pay43_at, pay38_at]
  simp only [pay36_eq, pay41_at, pay46_at, pay52_at, pay47_at, pay34_at, pay39_at, pay44_at, pay50_at, pay51_at, pay67_read, pay68_read, pay67_at, pay68_at,
    pay69_at, pay70_at, pay71_at, pay72_at, pay53_at, pay63_at, ld_wv10 x1 x2 x3 x4 x5 x6 x7, ld_wvs10 x1 x2 x3 x4 x5 x6 x7, ld_wc10 x1 x2 x3 x4 x5 x6 x7, ld_wu10 x1 x2 x3 x4 x5 x6 x7, ld_wus10 x1 x2 x3 x4 x5 x6 x7, ld_b10 x1 x2 x3 x4 x5 x6 x7, ld_wv11 x1 x2 x3 x4 x5 x6 x7, ld_wvs11 x1 x2 x3 x4 x5 x6 x7, ld_wc11 x1 x2 x3 x4 x5 x6 x7, ld_wu11 x1 x2 x3 x4 x5 x6 x7, ld_wus11 x1 x2 x3 x4 x5 x6 x7, ld_b11 x1 x2 x3 x4 x5 x6 x7, ld_wv12 x1 x2 x3 x4 x5 x6 x7, ld_wvs12 x1 x2 x3 x4 x5 x6 x7, ld_wc12 x1 x2 x3 x4 x5 x6 x7, ld_wu12 x1 x2 x3 x4 x5 x6 x7, ld_wus12 x1 x2 x3 x4 x5 x6 x7, ld_b12 x1 x2 x3 x4 x5 x6 x7, ld_wv13 x1 x2 x3 x4 x5 x6 x7, ld_wvs13 x1 x2 x3 x4 x5 x6 x7, ld_wc13 x1 x2 x3 x4 x5 x6 x7, ld_wu13 x1 x2 x3 x4 x5 x6 x7, ld_wus13 x1 x2 x3 x4 x5 x6 x7, ld_b13 x1 x2 x3 x4 x5 x6 x7]
  rfl
end

end Cert.Proof.Ref
end
-- ==== Proof.RBlk.lean ====
module
public import proofs.«01_k».proof.Proof.Gen.ReferenceIdeal.Frame
public import proofs.«01_k».proof.Proof.Spec
public import proofs.«01_k».proof.Proof.RefG
public import proofs.«01_k».proof.Proof.RefF
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's arrays as its region finds them. -/

section
variable (m : (ℓ : Loc nD τ sig) → Buf (Elt Ideal) ℓ) (c : Dev nD)

/-- The contents of window 0's array. -/
def R0 : Vec Ideal S61440x1152 .bf16 := V m c main_v0
/-- The contents of window 1's array. -/
def R1 : Vec Ideal S2x1152x4 .f32 := V m c main_arg1
/-- The contents of window 2's array. -/
def R2 : Vec Ideal S2x1152x1024 .fp8e4m3 := V m c main_v1
/-- The contents of window 3's array. -/
def R3 : Vec Ideal S2x4x256 .f32 := V m c main_arg3
/-- The contents of window 4's array. -/
def R4 : Vec Ideal S2x4x256x256 .bf16 := V m c main_arg4
/-- The contents of window 5's array. -/
def R5 : Vec Ideal S2x4x256x1152 .fp8e4m3 := V m c main_arg5
/-- The contents of window 6's array. -/
def R6 : Vec Ideal S2x4x1152 .f32 := V m c main_arg6
/-- The contents of window 7's array. -/
def R7 : Vec Ideal S2x4x1152 .f32 := V m c main_arg7

/-- The weights. -/
def RW : Wts := rwts (R1 m c) (R2 m c) (R3 m c) (R4 m c) (R5 m c) (R6 m c) (R7 m c)
/-- A row of the input. -/
def RX (r : Fin 61440) : Fin 1152 → EReal := fun k => R0 m c (ix2 r k)

/-- Every operand of the reference has one block, and its index is zero. -/
theorem idx : ∀ t : Fin cfg0.N, win0_0.index t = ![0, 0] ∧ win0_1.index t = ![0, 0, 0] ∧ win0_2.index t = ![0, 0, 0] ∧ win0_3.index t = ![0, 0, 0] ∧ win0_4.index t = ![0, 0, 0, 0] ∧ win0_5.index t = ![0, 0, 0, 0] ∧ win0_6.index t = ![0, 0, 0] ∧ win0_7.index t = ![0, 0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

/-- The reference's block of operand 0 is the whole operand. -/
theorem r0_eq (t : Fin cfg0.N) : (iblk m c 0 t : Vec Ideal S61440x1152 .bf16) = R0 m c := by
  unfold R0
  blk_ext! [iblk, idx t]

/-- The reference's block of operand 1 is the whole operand. -/
theorem r1_eq (t : Fin cfg0.N) : (iblk m c 1 t : Vec Ideal S2x1152x4 .f32) = R1 m c := by
  unfold R1
  blk_ext! [iblk, idx t]

/-- The reference's block of operand 2 is the whole operand. -/
theorem r2_eq (t : Fin cfg0.N) : (iblk m c 2 t : Vec Ideal S2x1152x1024 .fp8e4m3) = R2 m c := by
  unfold R2
  blk_ext! [iblk, idx t]

/-- The reference's block of operand 3 is the whole operand. -/
theorem r3_eq (t : Fin cfg0.N) : (iblk m c 3 t : Vec Ideal S2x4x256 .f32) = R3 m c := by
  unfold R3
  blk_ext! [iblk, idx t]

/-- The reference's block of operand 4 is the whole operand. -/
theorem r4_eq (t : Fin cfg0.N) : (iblk m c 4 t : Vec Ideal S2x4x256x256 .bf16) = R4 m c := by
  unfold R4
  blk_ext! [iblk, idx t]

/-- The reference's block of operand 5 is the whole operand. -/
theorem r5_eq (t : Fin cfg0.N) : (iblk m c 5 t : Vec Ideal S2x4x256x1152 .fp8e4m3) = R5 m c := by
  unfold R5
  blk_ext! [iblk, idx t]

/-- The reference's block of operand 6 is the whole operand. -/
theorem r6_eq (t : Fin cfg0.N) : (iblk m c 6 t : Vec Ideal S2x4x1152 .f32) = R6 m c := by
  unfold R6
  blk_ext! [iblk, idx t]

/-- The reference's block of operand 7 is the whole operand. -/
theorem r7_eq (t : Fin cfg0.N) : (iblk m c 7 t : Vec Ideal S2x4x1152 .f32) = R7 m c := by
  unfold R7
  blk_ext! [iblk, idx t]

end

end Cert.Proof.Ref
end
-- ==== Proof.RArr.lean ====
module
public import proofs.«01_k».proof.Proof.Gen.ReferenceIdeal.Frame
public import proofs.«01_k».proof.Proof.Spec
public import proofs.«01_k».proof.Proof.RBlk
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's output arrays after its one grid point. -/

section
variable (m : (ℓ : Loc nD τ sig) → Buf (Elt Ideal) ℓ) (c : Dev nD)
/-- The array of window 8. -/
def L8 : Vec Ideal S61440x1152 .bf16 := fun i => fin (RW m c) (RX m c (i 0)) (i 1)

/-- An entry of the block of the result that the reference's body writes. -/
theorem out8_at (i : Fin 61440) (j : Fin 1152) : out0_8 (F := Ideal) (R0 m c) (R1 m c) (R2 m c) (R3 m c) (R4 m c) (R5 m c) (R6 m c) (R7 m c) (ix2 i j) = L8 m c (ix2 i j) := by
  rw [out0_8]
  frame_out
  exact yV_at (R0 m c) (R1 m c) (R2 m c) (R3 m c) (R4 m c) (R5 m c) (R6 m c) (R7 m c) i j

/-- After its one grid point, the reference's array 8 holds the result. -/
theorem arr8 : (dats m 0 c).arrAt 8 (cfgs 0).N = L8 m c := by
  refine (dats m 0 c).arrAt_eq_of_after_last 8 t0_0 (by decide +kernel) _ fun j => ?_
  blk_simp
  rw [after0_8, r0_eq, r1_eq, r2_eq, r3_eq, r4_eq, r5_eq, r6_eq, r7_eq]
  idx_vars j
  exact out8_at m c _ _

/-- The array of window 9. -/
def L9 : Vec Ideal S61440x4 .f32 := fun i => lg (RW m c) 0 (RX m c (i 0)) (i 1)

/-- An entry of the block of the first layer's logits that the reference's body writes. -/
theorem out9_at (i : Fin 61440) (j : Fin 4) : out0_9 (F := Ideal) (R0 m c) (R1 m c) (R2 m c) (R3 m c) (R4 m c) (R5 m c) (R6 m c) (R7 m c) (ix2 i j) = L9 m c (ix2 i j) := by
  rw [out0_9]
  frame_out
  exact pay56_at (R0 m c) (R1 m c) (R2 m c) (R3 m c) (R4 m c) (R5 m c) (R6 m c) (R7 m c) i j

/-- After its one grid point, the reference's array 9 holds the first layer's logits. -/
theorem arr9 : (dats m 0 c).arrAt 9 (cfgs 0).N = L9 m c := by
  refine (dats m 0 c).arrAt_eq_of_after_last 9 t0_0 (by decide +kernel) _ fun j => ?_
  blk_simp
  rw [after0_9, r0_eq, r1_eq, r2_eq, r3_eq, r4_eq, r5_eq, r6_eq, r7_eq]
  idx_vars j
  exact out9_at m c _ _

/-- The array of window 10. -/
def L10 : Vec Ideal S61440x4 .f32 := fun i => lg (RW m c) 1 (mid (RW m c) (RX m c (i 0))) (i 1)

/-- An entry of the block of the second layer's logits that the reference's body writes. -/
theorem out10_at (i : Fin 61440) (j : Fin 4) : out0_10 (F := Ideal) (R0 m c) (R1 m c) (R2 m c) (R3 m c) (R4 m c) (R5 m c) (R6 m c) (R7 m c) (ix2 i j) = L10 m c (ix2 i j) := by
  rw [out0_10]
  frame_out
  exact logits1_at (R0 m c) (R1 m c) (R2 m c) (R3 m c) (R4 m c) (R5 m c) (R6 m c) (R7 m c) i j

/-- After its one grid point, the reference's array 10 holds the second layer's logits. -/
theorem arr10 : (dats m 0 c).arrAt 10 (cfgs 0).N = L10 m c := by
  refine (dats m 0 c).arrAt_eq_of_after_last 10 t0_0 (by decide +kernel) _ fun j => ?_
  blk_simp
  rw [after0_10, r0_eq, r1_eq, r2_eq, r3_eq, r4_eq, r5_eq, r6_eq, r7_eq]
  idx_vars j
  exact out10_at m c _ _

/-- The array of window 11. -/
def L11 : Vec Ideal S61440x1152 .fp8e4m3 := fun i => codeOf (RX m c (i 0)) (i 1)

/-- An entry of the block of the first layer's codes that the reference's body writes. -/
theorem out11_at (i : Fin 61440) (j : Fin 1152) : out0_11 (F := Ideal) (R0 m c) (R1 m c) (R2 m c) (R3 m c) (R4 m c) (R5 m c) (R6 m c) (R7 m c) (ix2 i j) = L11 m c (ix2 i j) := by
  rw [out0_11]
  frame_out
  exact pay54_at (R0 m c) (R1 m c) (R2 m c) (R3 m c) (R4 m c) (R5 m c) (R6 m c) (R7 m c) i j

/-- After its one grid point, the reference's array 11 holds the first layer's codes. -/
theorem arr11 : (dats m 0 c).arrAt 11 (cfgs 0).N = L11 m c := by
  refine (dats m 0 c).arrAt_eq_of_after_last 11 t0_0 (by decide +kernel) _ fun j => ?_
  blk_simp
  rw [after0_11, r0_eq, r1_eq, r2_eq, r3_eq, r4_eq, r5_eq, r6_eq, r7_eq]
  idx_vars j
  exact out11_at m c _ _

/-- The array of window 12. -/
def L12 : Vec Ideal S61440x1 .f32 := fun i => sOf (RX m c (i 0))

/-- An entry of the block of the first layer's scales that the reference's body writes. -/
theorem out12_at (i : Fin 61440) (j : Fin 1) : out0_12 (F := Ideal) (R0 m c) (R1 m c) (R2 m c) (R3 m c) (R4 m c) (R5 m c) (R6 m c) (R7 m c) (ix2 i j) = L12 m c (ix2 i j) := by
  have hj : j = 0 := Subsingleton.elim _ _
  subst hj
  rw [out0_12]
  frame_out
  exact pay55_at (R0 m c) (R1 m c) (R2 m c) (R3 m c) (R4 m c) (R5 m c) (R6 m c) (R7 m c) i

/-- After its one grid point, the reference's array 12 holds the first layer's scales. -/
theorem arr12 : (dats m 0 c).arrAt 12 (cfgs 0).N = L12 m c := by
  refine (dats m 0 c).arrAt_eq_of_after_last 12 t0_0 (by decide +kernel) _ fun j => ?_
  blk_simp
  rw [after0_12, r0_eq, r1_eq, r2_eq, r3_eq, r4_eq, r5_eq, r6_eq, r7_eq]
  idx_vars j
  exact out12_at m c _ _

/-- The array of window 13. -/
def L13 : Vec Ideal S61440x1152 .fp8e4m3 := fun i => codeOf (mid (RW m c) (RX m c (i 0))) (i 1)

/-- An entry of the block of the second layer's codes that the reference's body writes. -/
theorem out13_at (i : Fin 61440) (j : Fin 1152) : out0_13 (F := Ideal) (R0 m c) (R1 m c) (R2 m c) (R3 m c) (R4 m c) (R5 m c) (R6 m c) (R7 m c) (ix2 i j) = L13 m c (ix2 i j) := by
  rw [out0_13]
  frame_out
  exact pay67_at (R0 m c) (R1 m c) (R2 m c) (R3 m c) (R4 m c) (R5 m c) (R6 m c) (R7 m c) i j

/-- After its one grid point, the reference's array 13 holds the second layer's codes. -/
theorem arr13 : (dats m 0 c).arrAt 13 (cfgs 0).N = L13 m c := by
  refine (dats m 0 c).arrAt_eq_of_after_last 13 t0_0 (by decide +kernel) _ fun j => ?_
  blk_simp
  rw [after0_13, r0_eq, r1_eq, r2_eq, r3_eq, r4_eq, r5_eq, r6_eq, r7_eq]
  idx_vars j
  exact out13_at m c _ _

/-- The array of window 14. -/
def L14 : Vec Ideal S61440x1 .f32 := fun i => sOf (mid (RW m c) (RX m c (i 0)))

/-- An entry of the block of the second layer's scales that the reference's body writes. -/
theorem out14_at (i : Fin 61440) (j : Fin 1) : out0_14 (F := Ideal) (R0 m c) (R1 m c) (R2 m c) (R3 m c) (R4 m c) (R5 m c) (R6 m c) (R7 m c) (ix2 i j) = L14 m c (ix2 i j) := by
  have hj : j = 0 := Subsingleton.elim _ _
  subst hj
  rw [out0_14]
  frame_out
  exact pay68_at (R0 m c) (R1 m c) (R2 m c) (R3 m c) (R4 m c) (R5 m c) (R6 m c) (R7 m c) i

/-- After its one grid point, the reference's array 14 holds the second layer's scales. -/
theorem arr14 : (dats m 0 c).arrAt 14 (cfgs 0).N = L14 m c := by
  refine (dats m 0 c).arrAt_eq_of_after_last 14 t0_0 (by decide +kernel) _ fun j => ?_
  blk_simp
  rw [after0_14, r0_eq, r1_eq, r2_eq, r3_eq, r4_eq, r5_eq, r6_eq, r7_eq]
  idx_vars j
  exact out14_at m c _ _

end

end Cert.Proof.Ref
end
-- ==== Proof.RRun.lean ====
module
public import proofs.«01_k».proof.Proof.Gen.ReferenceIdeal.Frame
public import proofs.«01_k».proof.Proof.Spec
public import proofs.«01_k».proof.Proof.RArr
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's results after its run. -/

open Idealize.SL.Sem

section
variable (m : (ℓ : Loc nD τ sig) → Buf (Elt Ideal) ℓ) (c : Dev nD)
/-- An input row. -/
def RR (a : Fin 48) (b : Fin 1280) : Fin 1152 → EReal := RX m c (⟨a.val * 1280 + b.val, by omega⟩ : Fin 61440)

/-- The host line's result `main_v7`, over what the line starts from. -/
theorem line7 (Z : Valuation τ sig (Elt Ideal)) : StableHlo.after hostOps1 Z (Proc.devRef .tc main_v7) = (shapeCast S48x1280x1152 (Z (Proc.devRef .tc main_v2_0) : Vec Ideal S61440x1152 .bf16) shapeCasts_S61440x1152_S48x1280x1152 : Vec Ideal S48x1280x1152 .bf16) := by
  after_results
  rfl

/-- The result `main_v7`. -/
def O7 : Vec Ideal S48x1280x1152 .bf16 := shapeCast S48x1280x1152 (L8 m c) shapeCasts_S61440x1152_S48x1280x1152

/-- The reference's host code after the call leaves the result as stated. -/
theorem tail7 : Pipeline.afterTail₀ cfgs (dats m) 0 (V0 m) [hostOps1] c main_v7 = O7 m c := by
  unfold Pipeline.afterTail₀
  refine (line7 _).trans ?_
  unfold O7
  have h8 := (Pipeline.withArrays_arr spec0 launch0.win.arr_inj c (V0 m c) (fun w => (dats m 0 c).arrAt w (cfgs 0).N) 8).trans (arr8 m c)
  change Pipeline.withArrays spec0 c (V0 m c) (fun w => (dats m 0 c).arrAt w (cfgs 0).N) (Proc.devRef .tc main_v2_0) = _ at h8
  erw [h8]

/-- An entry of the reference's result: the input's row after both layers. -/
theorem O7_at (a : Fin 48) (b : Fin 1280) (k : Fin 1152) : O7 m c (ix3 a b k) = fin (RW m c) (RR m c a b) k := by
  unfold O7
  pointwise []
  rfl

/-- The host line's result `main_v6`, over what the line starts from. -/
theorem line6 (Z : Valuation τ sig (Elt Ideal)) : StableHlo.after hostOps1 Z (Proc.devRef .tc main_v6) = (shapeCast S48x1280x2x4 (concatenate S61440x2x4 1 [⟨S61440x1x4, broadcastInDim S61440x1x4 ![0, 2] bcast_S61440x4_S61440x1x4_0_2 (Z (Proc.devRef .tc main_v2_1) : Vec Ideal S61440x4 .f32)⟩, ⟨S61440x1x4, broadcastInDim S61440x1x4 ![0, 2] bcast_S61440x4_S61440x1x4_0_2 (Z (Proc.devRef .tc main_v2_2) : Vec Ideal S61440x4 .f32)⟩] concatenates_S61440x1x4_S61440x1x4_S61440x2x4_d1) shapeCasts_S61440x2x4_S48x1280x2x4 : Vec Ideal S48x1280x2x4 .f32) := by
  after_results
  rfl

/-- The result `main_v6`. -/
def O6 : Vec Ideal S48x1280x2x4 .f32 := shapeCast S48x1280x2x4 (concatenate S61440x2x4 1 [⟨S61440x1x4, broadcastInDim S61440x1x4 ![0, 2] bcast_S61440x4_S61440x1x4_0_2 (L9 m c)⟩, ⟨S61440x1x4, broadcastInDim S61440x1x4 ![0, 2] bcast_S61440x4_S61440x1x4_0_2 (L10 m c)⟩] concatenates_S61440x1x4_S61440x1x4_S61440x2x4_d1) shapeCasts_S61440x2x4_S48x1280x2x4

/-- The reference's host code after the call leaves the gate logits as stated. -/
theorem tail6 : Pipeline.afterTail₀ cfgs (dats m) 0 (V0 m) [hostOps1] c main_v6 = O6 m c := by
  unfold Pipeline.afterTail₀
  refine (line6 _).trans ?_
  unfold O6
  have h9 := (Pipeline.withArrays_arr spec0 launch0.win.arr_inj c (V0 m c) (fun w => (dats m 0 c).arrAt w (cfgs 0).N) 9).trans (arr9 m c)
  change Pipeline.withArrays spec0 c (V0 m c) (fun w => (dats m 0 c).arrAt w (cfgs 0).N) (Proc.devRef .tc main_v2_1) = _ at h9
  have h10 := (Pipeline.withArrays_arr spec0 launch0.win.arr_inj c (V0 m c) (fun w => (dats m 0 c).arrAt w (cfgs 0).N) 10).trans (arr10 m c)
  change Pipeline.withArrays spec0 c (V0 m c) (fun w => (dats m 0 c).arrAt w (cfgs 0).N) (Proc.devRef .tc main_v2_2) = _ at h10
  erw [h9, h10]

/-- An entry of the reference's gate logits: the gate logit of its layer and expert. -/
theorem O6_at (a : Fin 48) (b : Fin 1280) (l : Fin 2) (e : Fin 4) : O6 m c (ix4 a b l e) = (if l.val = 0 then lg (RW m c) 0 (RR m c a b) e else lg (RW m c) 1 (mid (RW m c) (RR m c a b)) e) := by
  unfold O6
  pointwise []
  by_cases hl : l.val = 0
  · rw [dif_pos (by omega), if_pos hl]
    rfl
  · rw [dif_neg (by omega), if_neg hl]
    rfl

/-- The host line's result `main_v8`, over what the line starts from. -/
theorem line8 (Z : Valuation τ sig (Elt Ideal)) : StableHlo.after hostOps1 Z (Proc.devRef .tc main_v8) = (shapeCast S48x1280x1152 (Z (Proc.devRef .tc main_v2_3) : Vec Ideal S61440x1152 .fp8e4m3) shapeCasts_S61440x1152_S48x1280x1152 : Vec Ideal S48x1280x1152 .fp8e4m3) := by
  after_results
  rfl

/-- The result `main_v8`. -/
def O8 : Vec Ideal S48x1280x1152 .fp8e4m3 := shapeCast S48x1280x1152 (L11 m c) shapeCasts_S61440x1152_S48x1280x1152

/-- The reference's host code after the call leaves the first layer's codes as stated. -/
theorem tail8 : Pipeline.afterTail₀ cfgs (dats m) 0 (V0 m) [hostOps1] c main_v8 = O8 m c := by
  unfold Pipeline.afterTail₀
  refine (line8 _).trans ?_
  unfold O8
  have h11 := (Pipeline.withArrays_arr spec0 launch0.win.arr_inj c (V0 m c) (fun w => (dats m 0 c).arrAt w (cfgs 0).N) 11).trans (arr11 m c)
  change Pipeline.withArrays spec0 c (V0 m c) (fun w => (dats m 0 c).arrAt w (cfgs 0).N) (Proc.devRef .tc main_v2_3) = _ at h11
  erw [h11]

/-- An entry of the reference's first layer's codes: the code of the input's row. -/
theorem O8_at (a : Fin 48) (b : Fin 1280) (k : Fin 1152) : O8 m c (ix3 a b k) = codeOf (RR m c a b) k := by
  unfold O8
  pointwise []
  rfl

/-- The host line's result `main_v9`, over what the line starts from. -/
theorem line9 (Z : Valuation τ sig (Elt Ideal)) : StableHlo.after hostOps1 Z (Proc.devRef .tc main_v9) = (shapeCast S48x1280 (Z (Proc.devRef .tc main_v2_4) : Vec Ideal S61440x1 .f32) shapeCasts_S61440x1_S48x1280 : Vec Ideal S48x1280 .f32) := by
  after_results
  rfl

/-- The result `main_v9`. -/
def O9 : Vec Ideal S48x1280 .f32 := shapeCast S48x1280 (L12 m c) shapeCasts_S61440x1_S48x1280

/-- The reference's host code after the call leaves the first layer's scales as stated. -/
theorem tail9 : Pipeline.afterTail₀ cfgs (dats m) 0 (V0 m) [hostOps1] c main_v9 = O9 m c := by
  unfold Pipeline.afterTail₀
  refine (line9 _).trans ?_
  unfold O9
  have h12 := (Pipeline.withArrays_arr spec0 launch0.win.arr_inj c (V0 m c) (fun w => (dats m 0 c).arrAt w (cfgs 0).N) 12).trans (arr12 m c)
  change Pipeline.withArrays spec0 c (V0 m c) (fun w => (dats m 0 c).arrAt w (cfgs 0).N) (Proc.devRef .tc main_v2_4) = _ at h12
  erw [h12]

/-- An entry of the reference's first layer's scales: the scale of the input's row. -/
theorem O9_at (a : Fin 48) (b : Fin 1280)  : O9 m c (ix2 a b) = sOf (RR m c a b) := by
  unfold O9
  pointwise []
  rfl

/-- The host line's result `main_v10`, over what the line starts from. -/
theorem line10 (Z : Valuation τ sig (Elt Ideal)) : StableHlo.after hostOps1 Z (Proc.devRef .tc main_v10) = (shapeCast S48x1280x1152 (Z (Proc.devRef .tc main_v2_5) : Vec Ideal S61440x1152 .fp8e4m3) shapeCasts_S61440x1152_S48x1280x1152 : Vec Ideal S48x1280x1152 .fp8e4m3) := by
  after_results
  rfl

/-- The result `main_v10`. -/
def O10 : Vec Ideal S48x1280x1152 .fp8e4m3 := shapeCast S48x1280x1152 (L13 m c) shapeCasts_S61440x1152_S48x1280x1152

/-- The reference's host code after the call leaves the second layer's codes as stated. -/
theorem tail10 : Pipeline.afterTail₀ cfgs (dats m) 0 (V0 m) [hostOps1] c main_v10 = O10 m c := by
  unfold Pipeline.afterTail₀
  refine (line10 _).trans ?_
  unfold O10
  have h13 := (Pipeline.withArrays_arr spec0 launch0.win.arr_inj c (V0 m c) (fun w => (dats m 0 c).arrAt w (cfgs 0).N) 13).trans (arr13 m c)
  change Pipeline.withArrays spec0 c (V0 m c) (fun w => (dats m 0 c).arrAt w (cfgs 0).N) (Proc.devRef .tc main_v2_5) = _ at h13
  erw [h13]

/-- An entry of the reference's second layer's codes: the code of the row after the first layer. -/
theorem O10_at (a : Fin 48) (b : Fin 1280) (k : Fin 1152) : O10 m c (ix3 a b k) = codeOf (mid (RW m c) (RR m c a b)) k := by
  unfold O10
  pointwise []
  rfl

/-- The host line's result `main_v11`, over what the line starts from. -/
theorem line11 (Z : Valuation τ sig (Elt Ideal)) : StableHlo.after hostOps1 Z (Proc.devRef .tc main_v11) = (shapeCast S48x1280 (Z (Proc.devRef .tc main_v2_6) : Vec Ideal S61440x1 .f32) shapeCasts_S61440x1_S48x1280 : Vec Ideal S48x1280 .f32) := by
  after_results
  rfl

/-- The result `main_v11`. -/
def O11 : Vec Ideal S48x1280 .f32 := shapeCast S48x1280 (L14 m c) shapeCasts_S61440x1_S48x1280

/-- The reference's host code after the call leaves the second layer's scales as stated. -/
theorem tail11 : Pipeline.afterTail₀ cfgs (dats m) 0 (V0 m) [hostOps1] c main_v11 = O11 m c := by
  unfold Pipeline.afterTail₀
  refine (line11 _).trans ?_
  unfold O11
  have h14 := (Pipeline.withArrays_arr spec0 launch0.win.arr_inj c (V0 m c) (fun w => (dats m 0 c).arrAt w (cfgs 0).N) 14).trans (arr14 m c)
  change Pipeline.withArrays spec0 c (V0 m c) (fun w => (dats m 0 c).arrAt w (cfgs 0).N) (Proc.devRef .tc main_v2_6) = _ at h14
  erw [h14]

/-- An entry of the reference's second layer's scales: the scale of the row after the first layer. -/
theorem O11_at (a : Fin 48) (b : Fin 1280)  : O11 m c (ix2 a b) = sOf (mid (RW m c) (RR m c a b)) := by
  unfold O11
  pointwise []
  rfl

end

/-- After every run the six results hold the values above and the arguments are as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = O7 m c ∧ r.2.mem ((c.tc : Thread nD τ).loc main_v6) = O6 m c ∧ r.2.mem ((c.tc : Thread nD τ).loc main_v8) = O8 m c ∧ r.2.mem ((c.tc : Thread nD τ).loc main_v9) = O9 m c ∧ r.2.mem ((c.tc : Thread nD τ).loc main_v10) = O10 m c ∧ r.2.mem ((c.tc : Thread nD τ).loc main_v11) = O11 m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  (θ_run defs _ _).mono (fun _ h c => ⟨((h.1 c).2 main_v7 (Pipeline.mem_restRefs_of main_v7 (by decide) (by decide))).trans (tail7 m c), ((h.1 c).2 main_v6 (Pipeline.mem_restRefs_of main_v6 (by decide) (by decide))).trans (tail6 m c), ((h.1 c).2 main_v8 (Pipeline.mem_restRefs_of main_v8 (by decide) (by decide))).trans (tail8 m c), ((h.1 c).2 main_v9 (Pipeline.mem_restRefs_of main_v9 (by decide) (by decide))).trans (tail9 m c), ((h.1 c).2 main_v10 (Pipeline.mem_restRefs_of main_v10 (by decide) (by decide))).trans (tail10 m c), ((h.1 c).2 main_v11 (Pipeline.mem_restRefs_of main_v11 (by decide) (by decide))).trans (tail11 m c), h.2 c⟩)
    (θ_run_and (run_main m ρ) (unchanged m ρ))

end Cert.Proof.Ref
end
-- ==== Proof.KEnt.lean ====
module
public import proofs.«01_k».proof.Proof.Gen.KernelIdeal.Frame
public import proofs.«01_k».proof.Proof.Spec
public import proofs.«01_k».proof.Proof.KBlk
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof
open Idealize.ShloMosaic Cert.KernelIdeal Cert.KernelIdeal.Gen

/-! The kernel's arrays at entry, in terms of its arguments. -/

section
variable (m : (ℓ : Loc nD τ sig) → Buf (Elt Ideal) ℓ) (c : Dev nD)

/-- Argument 0. -/
def A0 : Vec Ideal S48x1280x1152 .bf16 := m ((c.tc : Thread nD τ).loc main_arg0)
/-- Argument 1. -/
def A1 : Vec Ideal S2x1152x4 .f32 := m ((c.tc : Thread nD τ).loc main_arg1)
/-- Argument 2. -/
def A2 : Vec Ideal S2x1152x4x256 .fp8e4m3 := m ((c.tc : Thread nD τ).loc main_arg2)
/-- Argument 3. -/
def A3 : Vec Ideal S2x4x256 .f32 := m ((c.tc : Thread nD τ).loc main_arg3)
/-- Argument 4. -/
def A4 : Vec Ideal S2x4x256x256 .bf16 := m ((c.tc : Thread nD τ).loc main_arg4)
/-- Argument 5. -/
def A5 : Vec Ideal S2x4x256x1152 .fp8e4m3 := m ((c.tc : Thread nD τ).loc main_arg5)
/-- Argument 6. -/
def A6 : Vec Ideal S2x4x1152 .f32 := m ((c.tc : Thread nD τ).loc main_arg6)
/-- Argument 7. -/
def A7 : Vec Ideal S2x4x1152 .f32 := m ((c.tc : Thread nD τ).loc main_arg7)

/-- The kernel's operand 0 is the input, its rows in one list. -/
theorem B0_eq : B0 m c = shapeCast S61440x1152 (A0 m c) shapeCasts_S48x1280x1152_S61440x1152 := by
  show StableHlo.after hostOps0 _ (Proc.devRef .tc main_v0) = _
  after_results
  rfl

/-- The kernel's operand 1 is the gate weights, transposed. -/
theorem B1_eq : B1 m c = transpose S2x4x1152 [0, 2, 1] (A1 m c) transposes_S2x1152x4_S2x4x1152_0_2_1 := by
  show StableHlo.after hostOps0 _ (Proc.devRef .tc main_v1) = _
  after_results
  rfl

/-- The kernel's operand 2 is the codes of the first factor, the experts side by side. -/
theorem B2_eq : B2 m c = shapeCast S2x1152x1024 (A2 m c) shapeCasts_S2x1152x4x256_S2x1152x1024 := by
  show StableHlo.after hostOps0 _ (Proc.devRef .tc main_v2) = _
  after_results
  rfl

/-- The kernel's operand 3 is the scales of the first factor. -/
theorem B3_eq : B3 m c = A3 m c := by
  exact V_main_arg3 m c

/-- The kernel's operand 4 is the inner factors. -/
theorem B4_eq : B4 m c = A4 m c := by
  exact V_main_arg4 m c

/-- The kernel's operand 5 is the codes of the last factor, the experts one below the other. -/
theorem B5_eq : B5 m c = shapeCast S2x1024x1152 (A5 m c) shapeCasts_S2x4x256x1152_S2x1024x1152 := by
  show StableHlo.after hostOps0 _ (Proc.devRef .tc main_v3) = _
  after_results
  rfl

/-- The kernel's operand 6 is the scales of the last factor. -/
theorem B6_eq : B6 m c = A6 m c := by
  exact V_main_arg6 m c

/-- The kernel's operand 7 is the biases. -/
theorem B7_eq : B7 m c = A7 m c := by
  exact V_main_arg7 m c

/-- An entry of the transposed gate weights, from the argument. -/
theorem B1_at (l : Fin 2) (e : Fin 4) (k : Fin 1152) : B1 m c (ix3 l e k) = A1 m c (ix3 l k e) := by
  rw [B1_eq]
  pointwise []

/-- An entry of the last factor's codes, from the argument. -/
theorem B5_at (l : Fin 2) (e : Fin 4) (j : Fin 256) (d : Fin 1152) :
    B5 m c (ix3 l (⟨256 * e.val + j.val, by omega⟩ : Fin 1024) d) = A5 m c (ix4 l e j d) := by
  rw [B5_eq]
  pointwise []

/-- An entry of the first factor's codes, from the argument. -/
theorem B2_at (l : Fin 2) (e : Fin 4) (j : Fin 256) (k : Fin 1152) :
    B2 m c (ix3 l k (⟨256 * e.val + j.val, by omega⟩ : Fin 1024)) = A2 m c (ix4 l k e j) := by
  rw [B2_eq]
  pointwise []

/-- An entry of the input's list of rows, from the argument. -/
theorem B0_at (a : Fin 48) (b : Fin 1280) (k : Fin 1152) : B0 m c (ix2 (⟨a.val * 1280 + b.val, by omega⟩ : Fin 61440) k) = A0 m c (ix3 a b k) := by
  rw [B0_eq]
  pointwise []
end

end Cert.Proof
end
-- ==== Proof.REnt.lean ====
module
public import proofs.«01_k».proof.Proof.Gen.ReferenceIdeal.Frame
public import proofs.«01_k».proof.Proof.Spec
public import proofs.«01_k».proof.Proof.RBlk
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Proof.Ref
open Idealize.ShloMosaic Cert.Proof Cert.ReferenceIdeal Cert.ReferenceIdeal.Gen

/-! The reference's arrays at entry, in terms of its arguments. -/

section
variable (m : (ℓ : Loc nD τ sig) → Buf (Elt Ideal) ℓ) (c : Dev nD)
/-- Argument 0. -/
def A0 : Vec Ideal S48x1280x1152 .bf16 := m ((c.tc : Thread nD τ).loc main_arg0)
/-- Argument 1. -/
def A1 : Vec Ideal S2x1152x4 .f32 := m ((c.tc : Thread nD τ).loc main_arg1)
/-- Argument 2. -/
def A2 : Vec Ideal S2x1152x4x256 .fp8e4m3 := m ((c.tc : Thread nD τ).loc main_arg2)
/-- Argument 3. -/
def A3 : Vec Ideal S2x4x256 .f32 := m ((c.tc : Thread nD τ).loc main_arg3)
/-- Argument 4. -/
def A4 : Vec Ideal S2x4x256x256 .bf16 := m ((c.tc : Thread nD τ).loc main_arg4)
/-- Argument 5. -/
def A5 : Vec Ideal S2x4x256x1152 .fp8e4m3 := m ((c.tc : Thread nD τ).loc main_arg5)
/-- Argument 6. -/
def A6 : Vec Ideal S2x4x1152 .f32 := m ((c.tc : Thread nD τ).loc main_arg6)
/-- Argument 7. -/
def A7 : Vec Ideal S2x4x1152 .f32 := m ((c.tc : Thread nD τ).loc main_arg7)

/-- The reference's operand 0 is the input, its rows in one list. -/
theorem R0_eq : R0 m c = shapeCast S61440x1152 (A0 m c) shapeCasts_S48x1280x1152_S61440x1152 := by
  show StableHlo.after hostOps0 _ (Proc.devRef .tc main_v0) = _
  after_results
  rfl

/-- The reference's operand 1 is the gate weights. -/
theorem R1_eq : R1 m c = A1 m c := by
  exact V_main_arg1 m c

/-- The reference's operand 2 is the codes of the first factor, the experts side by side. -/
theorem R2_eq : R2 m c = shapeCast S2x1152x1024 (A2 m c) shapeCasts_S2x1152x4x256_S2x1152x1024 := by
  show StableHlo.after hostOps0 _ (Proc.devRef .tc main_v1) = _
  after_results
  rfl

/-- The reference's operand 3 is the scales of the first factor. -/
theorem R3_eq : R3 m c = A3 m c := by
  exact V_main_arg3 m c

/-- The reference's operand 4 is the inner factors. -/
theorem R4_eq : R4 m c = A4 m c := by
  exact V_main_arg4 m c

/-- The reference's operand 5 is the codes of the last factor. -/
theorem R5_eq : R5 m c = A5 m c := by
  exact V_main_arg5 m c

/-- The reference's operand 6 is the scales of the last factor. -/
theorem R6_eq : R6 m c = A6 m c := by
  exact V_main_arg6 m c

/-- The reference's operand 7 is the biases. -/
theorem R7_eq : R7 m c = A7 m c := by
  exact V_main_arg7 m c

/-- An entry of the first factor's codes, from the argument. -/
theorem R2_at (l : Fin 2) (e : Fin 4) (j : Fin 256) (k : Fin 1152) :
    R2 m c (ix3 l k (⟨256 * e.val + j.val, by omega⟩ : Fin 1024)) = A2 m c (ix4 l k e j) := by
  rw [R2_eq]
  pointwise []

/-- An entry of the input's list of rows, from the argument. -/
theorem R0_at (a : Fin 48) (b : Fin 1280) (k : Fin 1152) : R0 m c (ix2 (⟨a.val * 1280 + b.val, by omega⟩ : Fin 61440) k) = A0 m c (ix3 a b k) := by
  rw [R0_eq]
  pointwise []
end

end Cert.Proof.Ref
end
-- ==== Proof.Tie.lean ====
module
public import proofs.«01_k».proof.Proof.KRun
public import proofs.«01_k».proof.Proof.RRun
public import proofs.«01_k».proof.Proof.KEnt
public import proofs.«01_k».proof.Proof.REnt
public import Idealize.ShloMosaic.Lib.Pointwise

@[expose] public section
set_option maxRecDepth 16384
noncomputable section
namespace Cert.Proof
open Idealize.ShloMosaic

/-! The two programs' results agree when their arguments agree. -/

/-- Two sets of weights that agree at every index are equal. -/
theorem wts_ext {V W : Wts} (h1 : ∀ l e k, V.wg l e k = W.wg l e k) (h2 : ∀ l e k j, V.wv l e k j = W.wv l e k j)
    (h3 : ∀ l e j, V.wvs l e j = W.wvs l e j) (h4 : ∀ l e i j, V.wc l e i j = W.wc l e i j)
    (h5 : ∀ l e j d, V.wu l e j d = W.wu l e j d) (h6 : ∀ l e d, V.wus l e d = W.wus l e d) (h7 : ∀ l e d, V.b l e d = W.b l e d) : V = W := by
  cases V
  cases W
  simp only [Wts.mk.injEq]
  exact ⟨funext fun l => funext fun e => funext fun k => h1 l e k, funext fun l => funext fun e => funext fun k => funext fun j => h2 l e k j,
    funext fun l => funext fun e => funext fun j => h3 l e j, funext fun l => funext fun e => funext fun i => funext fun j => h4 l e i j,
    funext fun l => funext fun e => funext fun j => funext fun d => h5 l e j d, funext fun l => funext fun e => funext fun d => h6 l e d,
    funext fun l => funext fun e => funext fun d => h7 l e d⟩

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' arguments agree on a device. -/
def Agree : Prop :=
  Ref.A0 m' c = A0 m c ∧ Ref.A1 m' c = A1 m c ∧ Ref.A2 m' c = A2 m c ∧ Ref.A3 m' c = A3 m c ∧ Ref.A4 m' c = A4 m c
    ∧ Ref.A5 m' c = A5 m c ∧ Ref.A6 m' c = A6 m c ∧ Ref.A7 m' c = A7 m c

variable {m m' c} (h : Agree m m' c)
include h

/-- Both programs read the same weights from agreeing arguments. -/
theorem W_eq : Ref.RW m' c = KW m c := by
  obtain ⟨h0, h1, h2, h3, h4, h5, h6, h7⟩ := h
  refine wts_ext (fun l e k => ?_) (fun l e k j => ?_) (fun l e j => ?_) (fun l e i j => ?_) (fun l e j d => ?_) (fun l e d => ?_) (fun l e d => ?_)
  · show Ref.R1 m' c (ix3 l k e) = B1 m c (ix3 l e k)
    rw [Ref.R1_eq, B1_at, h1]
  · show Ref.R2 m' c (ix3 l k _) = B2 m c (ix3 l k _)
    exact (Ref.R2_at m' c l e j k).trans ((congrFun h2 _).trans (B2_at m c l e j k).symm)
  · show Ref.R3 m' c (ix3 l e j) = B3 m c (ix3 l e j)
    rw [Ref.R3_eq, B3_eq, h3]
  · show Ref.R4 m' c (ix4 l e i j) = B4 m c (ix4 l e i j)
    rw [Ref.R4_eq, B4_eq, h4]
  · show Ref.R5 m' c (ix4 l e j d) = B5 m c (ix3 l _ d)
    rw [Ref.R5_eq]
    exact (congrFun h5 _).trans (B5_at m c l e j d).symm
  · show Ref.R6 m' c (ix3 l e d) = B6 m c (ix3 l e d)
    rw [Ref.R6_eq, B6_eq, h6]
  · show Ref.R7 m' c (ix3 l e d) = B7 m c (ix3 l e d)
    rw [Ref.R7_eq, B7_eq, h7]

/-- Both programs read the same rows of the input from agreeing arguments. -/
theorem X_eq (a : Fin 48) (b : Fin 1280) : Ref.RR m' c a b = KR m c a b :=
  funext fun k => (Ref.R0_at m' c a b k).trans ((congrFun h.1 _).trans (B0_at m c a b k).symm)

/-- The rows. -/
theorem tie_y : Ref.O7 m' c = O8 m c := by
  funext j
  idx_vars j
  refine (Ref.O7_at m' c _ _ _).trans (Eq.trans ?_ (O8_at m c _ _ _).symm)
  rw [W_eq h, X_eq h]

/-- The logits. -/
theorem tie_l : Ref.O6 m' c = O7 m c := by
  funext j
  idx_vars j
  refine (Ref.O6_at m' c _ _ _ _).trans (Eq.trans ?_ (O7_at m c _ _ _ _).symm)
  rw [W_eq h, X_eq h]

/-- The first layer's codes. -/
theorem tie_c0 : Ref.O8 m' c = O9 m c := by
  funext j
  idx_vars j
  refine (Ref.O8_at m' c _ _ _).trans (Eq.trans ?_ (O9_at m c _ _ _).symm)
  rw [X_eq h]

/-- The first layer's scales. -/
theorem tie_s0 : Ref.O9 m' c = O12 m c := by
  funext j
  idx_vars j
  refine (Ref.O9_at m' c _ _).trans (Eq.trans ?_ (O12_at m c _ _).symm)
  rw [X_eq h]

/-- The second layer's codes. -/
theorem tie_c1 : Ref.O10 m' c = O13 m c := by
  funext j
  idx_vars j
  refine (Ref.O10_at m' c _ _ _).trans (Eq.trans ?_ (O13_at m c _ _ _).symm)
  rw [W_eq h, X_eq h]

/-- The second layer's scales. -/
theorem tie_s1 : Ref.O11 m' c = O16 m c := by
  funext j
  idx_vars j
  refine (Ref.O11_at m' c _ _).trans (Eq.trans ?_ (O16_at m c _ _).symm)
  rw [W_eq h, X_eq h]
end
end Cert.Proof
end
-- ==== Proof.PreFin.lean ====
module
public import proofs.«01_k».proof.Defs
public import proofs.«01_k».proof.Proof.Gen.Pre_finite_gates
public import Idealize.ShloMosaic.Lib.ReduceAll
public import Idealize.ShloMosaic.Lib.Pointwise

@[expose] public section
set_option maxRecDepth 16384
noncomputable section
namespace Cert.Proof
open Idealize.ShloMosaic Cert.Pre_finite_gates Cert.Pre_finite_gates.Gen

/-! The precondition: the gate weights of the first layer are finite. -/

/-- A value whose absolute value is below infinity cancels against itself. -/
theorem sub_self_of_lt (v : EReal) (h : max v (-v) < ⊤) : v - v = 0 := by
  have h1 : v ≠ ⊤ := fun e => by simp [e] at h
  have h2 : v ≠ ⊥ := fun e => by simp [e] at h
  exact EReal.sub_self h1 h2

/-- Under the precondition every gate weight of the first layer cancels against itself. -/
theorem finite_of_pre (a0 : FVec Ideal S48x1280x1152 .bf16) (a1 : FVec Ideal S2x1152x4 .f32) (a2 : FVec Ideal S2x1152x4x256 .fp8e4m3) (a3 : FVec Ideal S2x4x256 .f32)
    (a4 : FVec Ideal S2x4x256x256 .bf16) (a5 : FVec Ideal S2x4x256x1152 .fp8e4m3) (a6 : FVec Ideal S2x4x1152 .f32) (a7 : FVec Ideal S2x4x1152 .f32)
    (h : Cert.Pre_finite_gates.fn (F := Ideal) a0 a1 a2 a3 a4 a5 a6 a7 = fun _ => 1#1) (k : Fin 1152) (e : Fin 4) :
    a1 (ix3 0 k e) - a1 (ix3 0 k e) = 0 := by
  have h0 := congrFun h (fun i => i.elim0)
  dsimp only [fn] at h0
  have h1 := Host.reduce_andi_all _ _ _ _ _ h0 (ix2 k e)
  pointwise at h1
  rw [show Ideal.ofBits FTy.f32 2139095040#32 = ⊤ by simp [Ideal.ofBits, Ideal.ieee]] at h1
  by_cases hd : max (a1 (ix3 0 k e)) (-(a1 (ix3 0 k e))) < (⊤ : EReal)
  · exact sub_self_of_lt _ hd
  · exact absurd (h1.symm.trans (congrArg BitVec.ofBool (decide_eq_false hd))) (by decide)
end Cert.Proof
end
-- ==== Proof.Alg.lean ====
module
public import proofs.«01_k».proof.Defs
public import proofs.«01_k».proof.Proof.Tie
public import proofs.«01_k».proof.Proof.PreFin
public import Idealize.ShloMosaic.Lib.Claim

@[expose] public section
set_option maxRecDepth 16384
noncomputable section
namespace Cert.Proof
open Idealize.ShloMosaic Idealize.SL.Sem

/-- The kernel and the reference end with the same six results, over the extended reals, when the first layer's gate weights are finite. -/
theorem algebraic : Cert.algebraic_KernelIdeal_ReferenceIdeal_pre_finite_gates (hKernelIdeal := Cert.KernelIdeal.Gen.facts)
    (hReferenceIdeal := Cert.ReferenceIdeal.Gen.facts) (hPre_finite_gates := Cert.Pre_finite_gates.Gen.facts) := by
  intro m g m' g' hpre hagree
  have hf : ∀ (c : Dev Cert.KernelIdeal.nD) (e : Fin 4) (k : Fin 1152), B1 m c (ix3 0 e k) - B1 m c (ix3 0 e k) = 0 := fun c e k => by
    rw [B1_at]
    exact finite_of_pre _ _ _ _ _ _ _ _ (hpre c) k e
  have hA : ∀ c, Agree m m' c := fun c => hagree c
  refine ⟨fun c => O8 m c, fun c => O7 m c, fun c => O9 m c, fun c => O12 m c, fun c => O13 m c, fun c => O16 m c, run m g hf, ?_⟩
  refine (θ_run _ _ _).mono (fun r h c => ?_) (Ref.run m' g')
  obtain ⟨h1, h2, h3, h4, h5, h6, h7⟩ := h c
  exact ⟨h1.trans (tie_y (hA c)), h2.trans (tie_l (hA c)), h3.trans (tie_c0 (hA c)), h4.trans (tie_s0 (hA c)), h5.trans (tie_c1 (hA c)),
    h6.trans (tie_s1 (hA c)), h7⟩
end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_gates
public import proofs.«01_k».proof.Proof.Alg
public import Idealize.ShloMosaic.Adequacy
public import Idealize.ShloMosaic.Init

@[expose] public section

noncomputable section

namespace Cert.Proof

open Idealize.ShloMosaic Idealize.SL.Sem Cert.Kernel

/-- Every claim of the certificate: each program ends with its frame kept and its semaphores at zero, the kernel's
idealization preserves it, and the idealized kernel and reference return equal results on finite gate weights. -/
theorem claim : Cert.Claim := ⟨Cert.Kernel.Gen.facts, Cert.KernelIdeal.Gen.facts, Cert.ReferenceIdeal.Gen.facts,
  Cert.Pre_finite_gates.Gen.facts,
  fun m g _ => Cert.Kernel.Gen.frame m g, fun m g _ => Cert.KernelIdeal.Gen.frame m g,
  fun m g _ => Cert.KernelIdeal.Gen.frame m g, fun m g _ => Cert.ReferenceIdeal.Gen.frame m g,
  fun m g _ => Cert.ReferenceIdeal.Gen.frame m g, trivial, algebraic⟩

end Cert.Proof

end
